-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S16x2048 : Shape := ⟨2, ![16, 2048]⟩
abbrev S16x768x2048 : Shape := ⟨3, ![16, 768, 2048]⟩
abbrev S16x2048x768 : Shape := ⟨3, ![16, 2048, 768]⟩
abbrev S4096x2048 : Shape := ⟨2, ![4096, 2048]⟩
abbrev S4096x16 : Shape := ⟨2, ![4096, 16]⟩
abbrev S4096 : Shape := ⟨1, ![4096]⟩
abbrev S4096x1 : Shape := ⟨2, ![4096, 1]⟩
abbrev S1024x2048 : Shape := ⟨2, ![1024, 2048]⟩
abbrev S1024x16 : Shape := ⟨2, ![1024, 16]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S16x2048, .f32⟩
  | .hbm, ⟨2, _⟩ => ⟨S16x768x2048, .f32⟩
  | .hbm, ⟨3, _⟩ => ⟨S16x768x2048, .f32⟩
  | .hbm, ⟨4, _⟩ => ⟨S16x2048x768, .f32⟩
  | .hbm, ⟨5, _⟩ => ⟨S4096x2048, .f32⟩
  | .hbm, ⟨6, _⟩ => ⟨S4096x16, .f32⟩
  | .hbm, ⟨7, _⟩ => ⟨S4096x16, .f32⟩
  | .hbm, ⟨8, _⟩ => ⟨S4096x2048, .bf16⟩
  | .hbm, ⟨9, _⟩ => ⟨S4096x2048, .f32⟩
  | .hbm, ⟨10, _⟩ => ⟨S2x2048x2048, .f32⟩
  | .local _ .vmem, ⟨0, _⟩ => ⟨S4096x2048, .f32⟩
  | .local _ .vmem, ⟨1, _⟩ => ⟨S16x2048, .f32⟩
  | .local _ .vmem, ⟨2, _⟩ => ⟨S4096x16, .f32⟩
  | .local _ .vmem, ⟨3, _⟩ => ⟨S4096x16, .f32⟩
  | .local _ .vmem, ⟨4, _⟩ => ⟨S1024x2048, .bf16⟩
  | .local _ .vmem, ⟨5, _⟩ => ⟨S1024x2048, .bf16⟩
  | .local _ .vmem, ⟨6, _⟩ => ⟨S1024x16, .f32⟩
  | .local _ .vmem, ⟨7, _⟩ => ⟨S1024x16, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x2048x256, .f32⟩
  | .local _ .vmem, ⟨13, _⟩ => ⟨S1x2048x256, .f32⟩
  | .local _ .vmem, ⟨14, _⟩ => ⟨S1024x2048, .f32⟩
  | .local _ .vmem, ⟨15, _⟩ => ⟨S1024x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_1 : Ref sig .tc := ⟨.hbm, 6, rfl⟩
abbrev main_call0_v0_1 : Ref sig .tc := ⟨.hbm, 7, rfl⟩
abbrev main_call0_v1 : Ref sig .tc := ⟨.hbm, 8, rfl⟩
abbrev main_v1_0 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨3, ![4, 16, 3], ![false, false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v36 : BitVec 32 := Scalar.extui v2
  let c0_i32_20 : BitVec 32 := 0#32
  let v37 : BitVec 1 := Scalar.cmpi .ne v36 c0_i32_20
  v37

def k1_cond2 (i : grid1.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v_true : BitVec 1 := 1#1
  let v38 : BitVec 1 := Scalar.xori v2 v_true
  let v39 : BitVec 32 := Scalar.extui v38
  let c0_i32_21 : BitVec 32 := 0#32
  let v40 : BitVec 1 := Scalar.cmpi .ne v39 c0_i32_21
  v40

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]
-- ==== ReferenceIdeal.lean ====
abbrev S2x2048x2048 : Shape := ⟨3, ![2, 2048, 2048]⟩
abbrev S16x2048 : Shape := ⟨2, ![16, 2048]⟩
abbrev S16x768x2048 : Shape := ⟨3, ![16, 768, 2048]⟩
abbrev S16x2048x768 : Shape := ⟨3, ![16, 2048, 768]⟩
abbrev S4096x2048 : Shape := ⟨2, ![4096, 2048]⟩
abbrev S2048x16 : Shape := ⟨2, ![2048, 16]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S4096x2x1 : Shape := ⟨3, ![4096, 2, 1]⟩
abbrev S4096x2x2 : Shape := ⟨3, ![4096, 2, 2]⟩
abbrev S16x768x4096 : Shape := ⟨3, ![16, 768, 4096]⟩
abbrev S16x4096x768 : Shape := ⟨3, ![16, 4096, 768]⟩
abbrev S16x4096 : Shape := ⟨2, ![16, 4096]⟩
abbrev S16x4096x1 : Shape := ⟨3, ![16, 4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S16x2048, .f32⟩
  | .hbm, ⟨2, _⟩ => ⟨S16x768x2048, .f32⟩
  | .hbm, ⟨3, _⟩ => ⟨S16x768x2048, .f32⟩
  | .hbm, ⟨4, _⟩ => ⟨S16x2048x768, .f32⟩
  | .hbm, ⟨5, _⟩ => ⟨S4096x2048, .f32⟩
  | .hbm, ⟨6, _⟩ => ⟨S2048x16, .f32⟩
  | .hbm, ⟨7, _⟩ => ⟨S4096x16, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x16, .f32⟩
  | .hbm, ⟨21, _⟩ => ⟨S4096x16, .f32⟩
  | .hbm, ⟨22, _⟩ => ⟨S4096x2, .f32⟩
  | .hbm, ⟨23, _⟩ => ⟨S4096x2, .i32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x2, .f32⟩
  | .hbm, ⟨28, _⟩ => ⟨S4096x2, .f32⟩
  | .hbm, ⟨29, _⟩ => ⟨S_, .f32⟩
  | .hbm, ⟨30, _⟩ => ⟨S4096x16, .f32⟩
  | .hbm, ⟨31, _⟩ => ⟨S4096, .i32⟩
  | .hbm, ⟨32, _⟩ => ⟨S4096x1, .i32⟩
  | .hbm, ⟨33, _⟩ => ⟨S_, .i32⟩
  | .hbm, ⟨34, _⟩ => ⟨S4096x1, .i32⟩
  | .hbm, ⟨35, _⟩ => ⟨S4096x1, .i1⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x2, .i32⟩
  | .hbm, ⟨42, _⟩ => ⟨S4096x2, .i1⟩
  | .hbm, ⟨43, _⟩ => ⟨S_, .i32⟩
  | .hbm, ⟨44, _⟩ => ⟨S4096x2, .i32⟩
  | .hbm, ⟨45, _⟩ => ⟨S4096x2, .i32⟩
  | .hbm, ⟨46, _⟩ => ⟨S4096x2, .i32⟩
  | .hbm, ⟨47, _⟩ => ⟨S4096x2, .i32⟩
  | .hbm, ⟨48, _⟩ => ⟨S4096x2x1, .i32⟩
  | .hbm, ⟨49, _⟩ => ⟨S4096x2x1, .i32⟩
  | .hbm, ⟨50, _⟩ => ⟨S4096x2x2, .i32⟩
  | .hbm, ⟨51, _⟩ => ⟨S4096x16, .f32⟩
  | .hbm, ⟨52, _⟩ => ⟨S16x768x4096, .f32⟩
  | .hbm, ⟨53, _⟩ => ⟨S16x4096x768, .f32⟩
  | .hbm, ⟨54, _⟩ => ⟨S16x4096x768, .f32⟩
  | .hbm, ⟨55, _⟩ => ⟨S16x4096x768, .f32⟩
  | .hbm, ⟨56, _⟩ => ⟨S_, .f32⟩
  | .hbm, ⟨57, _⟩ => ⟨S16x4096x768, .f32⟩
  | .hbm, ⟨58, _⟩ => ⟨S16x4096x768, .f32⟩
  | .hbm, ⟨59, _⟩ => ⟨S_, .f32⟩
  | .hbm, ⟨60, _⟩ => ⟨S16x4096x768, .f32⟩
  | .hbm, ⟨61, _⟩ => ⟨S16x4096x768, .f32⟩
  | .hbm, ⟨62, _⟩ => ⟨S16x4096x768, .f32⟩
  | .hbm, ⟨63, _⟩ => ⟨S16x768x4096, .f32⟩
  | .hbm, ⟨64, _⟩ => ⟨S16x4096x768, .f32⟩
  | .hbm, ⟨65, _⟩ => ⟨S16x4096x768, .f32⟩
  | .hbm, ⟨66, _⟩ => ⟨S16x4096, .f32⟩
  | .hbm, ⟨67, _⟩ => ⟨S16x4096x1, .f32⟩
  | .hbm, ⟨68, _⟩ => ⟨S16x4096x768, .f32⟩
  | .hbm, ⟨69, _⟩ => ⟨S16x4096x768, .f32⟩
  | .hbm, ⟨70, _⟩ => ⟨S4096x2048, .f32⟩
  | .hbm, ⟨71, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Ideal.Router.lean ====
/- The router's call of `KernelIdeal`: one point, whose body leaves the logits and the dense weights of all tokens. The triple of
   the body, the proof data and the obligation, at any contents `V` of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights the body stores, from the tokens and the router's matrix. -/
def weights (x : Vec F S4096x2048 .f32) (w : Vec F S16x2048 .f32) : Vec F S4096x16 .f32 :=
  k0_pay1 (iota .tc S4096x16 32 [1] iota_S4096x16_d1_w32) (k0_pay7 x w) (k0_pay8 x w) (k0_pay9 x w) (k0_pay10 x w) (k0_pay11 x w)

abbrev rX : Rect S4096x2048 := Rect.unit (s := S4096x2048) ![0, 0] S4096x2048.size inb_S4096x2048_S4096x2048_0_0
abbrev rW : Rect S16x2048 := Rect.unit (s := S16x2048) ![0, 0] S16x2048.size inb_S16x2048_S16x2048_0_0
abbrev rO : Rect S4096x16 := Rect.unit (s := S4096x16) ![0, 0] S4096x16.size inb_S4096x16_S4096x16_0_0

/-- One store of the whole block covers it. -/
theorem covers (p : Vec F S4096x16 .f32) (y : S4096x16.Idx) :
    ∃ pc ∈ ([⟨rO, p⟩] : List (View.Piece (Elt F) S4096x16 .f32)), y ∈ pc.1.set :=
  View.cover_of_tiledL [⟨rO, p⟩] S4096x16.size (by sl_kernel_rfl) y

set_option maxHeartbeats 1000000 in
/-- The body on whole staging memrefs leaves the logits in the third and the weights in the fourth. -/
theorem body_run (c : Dev nD) (E : Set ℕ)
    (arg0 : Memref sig .tc .vmem S4096x2048 .f32) (harg0 : arg0.IsWhole) (arg1 : Memref sig .tc .vmem S16x2048 .f32) (harg1 : arg1.IsWhole)
    (arg2 : Memref sig .tc .vmem S4096x16 .f32) (harg2 : arg2.IsWhole) (arg3 : Memref sig .tc .vmem S4096x16 .f32) (harg3 : arg3.IsWhole)
    (x : Vec F S4096x2048 .f32) (w : Vec F S16x2048 .f32) (K : PUnit → sProp 𝕄) :
    iprop(owns (c : Thread nD τ) arg0 fullShare x ∗ owns (c : Thread nD τ) arg1 fullShare w
        ∗ (∃ d, owns (c : Thread nD τ) arg2 fullShare d) ∗ (∃ d, owns (c : Thread nD τ) arg3 fullShare d)
        ∗ (iprop(owns (c : Thread nD τ) arg0 fullShare x ∗ owns (c : Thread nD τ) arg1 fullShare w
            ∗ owns (c : Thread nD τ) arg2 fullShare (k0_pay2 x w) ∗ owns (c : Thread nD τ) arg3 fullShare (weights x w)) -∗ K ⟨⟩))
      ⊢ wp frame (wpE (defs₀ (F := F)) Variants.none c none) E (cc0__router_body arg0 harg0 arg1 harg1 arg2 harg2 arg3 harg3) K := by
  simp only [cc0__router_body_eq_skeleton]; unfold cc0__router_body_skel
  simp only [k0_part1_eq_skeleton]
  unfold owns
  iintro ⟨⟨%f0, %hf0, H0⟩, ⟨%f1, %hf1, H1⟩, ⟨%d2, %f2, -, H2⟩, ⟨%d3, %f3, -, H3⟩, Hk⟩
  obtain rfl := harg0.eq_unread hf0; obtain rfl := harg1.eq_unread hf1
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr
    swap; · iexact H2
    ipureintro
    refine (View.read_writes_eq_canon _ _ _ (covers _)).trans ?_
    sl_unfold_words
    simp (disch := decide) only [View.canon_cons_unit_lit', View.ld_unit_lit', View.readAt_eq_ld, Memref.IsWhole.read_unread]
  iexists _; isplitr
  swap; · iexact H3
  ipureintro
  refine (View.read_writes_eq_canon _ _ _ (covers _)).trans ?_
  sl_unfold_words
  simp (disch := decide) only [View.canon_cons_unit_lit', View.ld_unit_lit', View.readAt_eq_ld, Memref.IsWhole.read_unread]
  rfl

section Data
variable (V : (c : Dev nD) → (b : Ref sig .tc) → Buf (Elt F) ((c : Thread nD τ).loc b))

/-- Window `w`'s block at point `t`, as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the inputs stay at their blocks, the outputs are the logits and the weights of those blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay2 (iblk V c 0 t) (iblk V c 1 t)
    | ⟨3, _⟩ => weights (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay2 (iblk V c 0 t) (iblk V c 1 t) := by dsimp only [dat]
theorem after_3 (c : Dev nD) (t : Fin cfg0.N) : (dat V c).after 3 t = weights (iblk V c 0 t) (iblk V c 1 t) := by dsimp only [dat]

/-- Each input's staging buffer holds its block at the point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) V c) (defs₀ (F := F)) Variants.none () Set.univ := fun t => by
  rw [bigSep_W0, bigSep_W0, row]
  exact triple_restated (body_at V c t) rfl .rfl fun _ => .rfl

end Data

end Cert.KernelIdeal.Router

end
-- ==== Proof.Ideal.Experts.lean ====
/- The experts' call of `KernelIdeal`: at each of its 192 points the body makes one expert's block of rows, weighted, and adds it
   into the output's block, which it starts anew at every 48th point. The triple of the body in its two cases, the proof data and the
   obligation, at any contents `V` of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Acc
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points start a block anew -/

theorem starts : ∀ t : Fin cfg1.N, k1_cond1 (grid1.coords t) = 1#1 ↔ t.val % 48 = 0 :=
  (fun t => by
    have ht : t.val < 192 := Nat.lt_of_lt_of_eq t.isLt N_1
    have e0 : (grid1.coords t 0).val = t.val / 48 % 4 := Pipeline.Grid.coords_val t 0 (by decide) rfl
    have e1 : (grid1.coords t 1).val = t.val / 3 % 16 := Pipeline.Grid.coords_val t 1 (by decide) rfl
    have e2 : (grid1.coords t 2).val = t.val / 1 % 3 := Pipeline.Grid.coords_val t 2 (by decide) rfl
    simp only [k1_cond1, e0, e1, e2]
    word_cmp : ∀ t : Fin grid1.N, k1_cond1 (grid1.coords t) = 1#1 ↔ t.val % 48 = 0)

theorem adds : ∀ t : Fin cfg1.N, k1_cond2 (grid1.coords t) = 1#1 ↔ ¬ t.val % 48 = 0 :=
  (by decide +kernel : ∀ t : Fin grid1.N, k1_cond2 (grid1.coords t) = 1#1 ↔ ¬ t.val % 48 = 0)

/-- The body stores into the output's block at every point. -/
theorem never_idle : ∀ t : Fin cfg1.N, cfg1.idle 5 (grid1.coords t) = false := by decide +kernel

/-- Whether the output's staging buffer is unwritten since its last write-back: at every 48th point alone. -/
def freshTab : ℕ → Bool := fun n => n % 48 == 0

theorem freshTab_step : ∀ t : Fin cfg1.N,
    freshTab (t.val + 1) = ((cfg1.win 5).flush t || (cfg1.idle 5 (cfg1.grid.coords t) && freshTab t.val)) := by decide +kernel

theorem fresh_eq (t : Fin cfg1.N) : cfg1.fresh 5 t.val = freshTab t.val :=
  Pipeline.Cfg.fresh_tab cfg1 5 freshTab rfl freshTab_step t.val (Nat.le_of_lt t.isLt)

theorem kept (t : Fin cfg1.N) (h : ¬ t.val % 48 = 0) : cfg1.fresh 5 t.val = false := by
  rw [fresh_eq, freshTab]; simpa using h

/-! ## The body -/

abbrev rO : Rect S1024x2048 := Rect.unit (s := S1024x2048) ![0, 0] S1024x2048.size inb_S1024x2048_S1024x2048_0_0

/-- One store of the whole block covers it. -/
theorem covers (p : Vec F S1024x2048 .f32) (y : S1024x2048.Idx) :
    ∃ pc ∈ ([⟨rO, p⟩] : List (View.Piece (Elt F) S1024x2048 .f32)), y ∈ pc.1.set :=
  View.cover_of_tiledL [⟨rO, p⟩] S1024x2048.size (by sl_kernel_rfl) y

/-- What a starting point stores. -/
def first (i : grid1.Coords) (x : Vec F S1024x2048 .bf16) (w : Vec F S1024x16 .f32) (g u : Vec F S1x256x2048 .f32) (d : Vec F S1x2048x256 .f32) :
    Vec F S1024x2048 .f32 :=
  k1_pay2 (k1_pay4 x g u d) (k1_pay5 i w)

/-- What any other point stores over `acc`. -/
def next (i : grid1.Coords) (x : Vec F S1024x2048 .bf16) (w : Vec F S1024x16 .f32) (g u : Vec F S1x256x2048 .f32) (d : Vec F S1x2048x256 .f32)
    (acc : Vec F S1024x2048 .f32) : Vec F S1024x2048 .f32 :=
  k1_pay3 (k1_pay4 x g u d) (k1_pay5 i w) acc

set_option maxHeartbeats 1000000 in
/-- The body at a starting point, on whole staging memrefs. -/
theorem body_first (c : Dev nD) (E : Set ℕ) (i : grid1.Coords)
    (arg3 : Memref sig .tc .vmem S1024x2048 .bf16) (harg3 : arg3.IsWhole) (arg4 : Memref sig .tc .vmem S1024x16 .f32) (harg4 : arg4.IsWhole)
    (arg5 : Memref sig .tc .vmem S1x256x2048 .f32) (harg5 : arg5.IsWhole) (arg6 : Memref sig .tc .vmem S1x256x2048 .f32) (harg6 : arg6.IsWhole)
    (arg7 : Memref sig .tc .vmem S1x2048x256 .f32) (harg7 : arg7.IsWhole) (arg8 : Memref sig .tc .vmem S1024x2048 .f32) (harg8 : arg8.IsWhole)
    (hc0 : k1_cond1 i = 1#1) (hc1 : ¬ k1_cond2 i = 1#1)
    (x : Vec F S1024x2048 .bf16) (w : Vec F S1024x16 .f32) (g u : Vec F S1x256x2048 .f32) (d : Vec F S1x2048x256 .f32) (K : PUnit → sProp 𝕄) :
    iprop(owns (c : Thread nD τ) arg3 fullShare x ∗ owns (c : Thread nD τ) arg4 fullShare w ∗ owns (c : Thread nD τ) arg5 fullShare g
        ∗ owns (c : Thread nD τ) arg6 fullShare u ∗ owns (c : Thread nD τ) arg7 fullShare d ∗ (∃ z, owns (c : Thread nD τ) arg8 fullShare z)
        ∗ (iprop(owns (c : Thread nD τ) arg3 fullShare x ∗ owns (c : Thread nD τ) arg4 fullShare w ∗ owns (c : Thread nD τ) arg5 fullShare g
            ∗ owns (c : Thread nD τ) arg6 fullShare u ∗ owns (c : Thread nD τ) arg7 fullShare d
            ∗ owns (c : Thread nD τ) arg8 fullShare (first i x w g u d)) -∗ K ⟨⟩))
      ⊢ wp frame (wpE (defs₀ (F := F)) Variants.none c none) E (cc1__moe_body i arg3 harg3 arg4 harg4 arg5 harg5 arg6 harg6 arg7 harg7 arg8 harg8) K := by
  simp only [cc1__moe_body_eq_skeleton]; unfold cc1__moe_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  refine (View.read_writes_eq_canon _ _ _ (covers _)).trans ?_
  sl_unfold_words
  simp (disch := decide) only [View.canon_cons_unit_lit', View.ld_unit_lit', View.readAt_eq_ld, Memref.IsWhole.read_unread]
  rfl

set_option maxHeartbeats 1000000 in
/-- The body at any other point, the output's block found at `acc`. -/
theorem body_next (c : Dev nD) (E : Set ℕ) (i : grid1.Coords)
    (arg3 : Memref sig .tc .vmem S1024x2048 .bf16) (harg3 : arg3.IsWhole) (arg4 : Memref sig .tc .vmem S1024x16 .f32) (harg4 : arg4.IsWhole)
    (arg5 : Memref sig .tc .vmem S1x256x2048 .f32) (harg5 : arg5.IsWhole) (arg6 : Memref sig .tc .vmem S1x256x2048 .f32) (harg6 : arg6.IsWhole)
    (arg7 : Memref sig .tc .vmem S1x2048x256 .f32) (harg7 : arg7.IsWhole) (arg8 : Memref sig .tc .vmem S1024x2048 .f32) (harg8 : arg8.IsWhole)
    (hc0 : ¬ k1_cond1 i = 1#1) (hc1 : k1_cond2 i = 1#1)
    (x : Vec F S1024x2048 .bf16) (w : Vec F S1024x16 .f32) (g u : Vec F S1x256x2048 .f32) (d : Vec F S1x2048x256 .f32)
    (acc : Vec F S1024x2048 .f32) (K : PUnit → sProp 𝕄) :
    iprop(owns (c : Thread nD τ) arg3 fullShare x ∗ owns (c : Thread nD τ) arg4 fullShare w ∗ owns (c : Thread nD τ) arg5 fullShare g
        ∗ owns (c : Thread nD τ) arg6 fullShare u ∗ owns (c : Thread nD τ) arg7 fullShare d ∗ owns (c : Thread nD τ) arg8 fullShare acc
        ∗ (iprop(owns (c : Thread nD τ) arg3 fullShare x ∗ owns (c : Thread nD τ) arg4 fullShare w ∗ owns (c : Thread nD τ) arg5 fullShare g
            ∗ owns (c : Thread nD τ) arg6 fullShare u ∗ owns (c : Thread nD τ) arg7 fullShare d
            ∗ owns (c : Thread nD τ) arg8 fullShare (next i x w g u d acc)) -∗ K ⟨⟩))
      ⊢ wp frame (wpE (defs₀ (F := F)) Variants.none c none) E (cc1__moe_body i arg3 harg3 arg4 harg4 arg5 harg5 arg6 harg6 arg7 harg7 arg8 harg8) K := by
  simp only [cc1__moe_body_eq_skeleton]; unfold cc1__moe_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  refine (View.read_writes_eq_canon _ _ _ (covers _)).trans ?_
  sl_unfold_words
  simp (disch := decide) only [View.canon_cons_unit_lit', View.ld_unit_lit', View.readAt_eq_ld, Memref.IsWhole.read_unread]
  rfl

/-! ## The proof data -/

section Data
variable (V : (c : Dev nD) → (b : Ref sig .tc) → Buf (Elt F) ((c : Thread nD τ).loc b))

/-- Window `w`'s block at point `t`, as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a starting point `t` leaves, off the entry contents, -/
def firstAt (c : Dev nD) (t : Fin cfg1.N) : Vec F S1024x2048 .f32 :=
  first (grid1.coords t) (iblk V c 0 t) (iblk V c 1 t) (iblk V c 2 t) (iblk V c 3 t) (iblk V c 4 t)

/-- and what any other point makes of `acc`. -/
def nextAt (c : Dev nD) (t : Fin cfg1.N) (acc : Vec F S1024x2048 .f32) : Vec F S1024x2048 .f32 :=
  next (grid1.coords t) (iblk V c 0 t) (iblk V c 1 t) (iblk V c 2 t) (iblk V c 3 t) (iblk V c 4 t) acc

/-- The output's staging buffer after the body at position `n`. -/
def accAt (c : Dev nD) : (n : ℕ) → n < cfg1.N → Vec F S1024x2048 .f32
  | 0, hn => firstAt V c ⟨0, hn⟩
  | n + 1, hn =>
    if (n + 1) % 48 = 0 then firstAt V c ⟨n + 1, hn⟩ else nextAt V c ⟨n + 1, hn⟩ (accAt c n (Nat.lt_of_succ_lt hn))

theorem accAt_first (c : Dev nD) (t : Fin cfg1.N) (h : t.val % 48 = 0) : accAt V c t.val t.isLt = firstAt V c t := by
  obtain ⟨n, hn⟩ := t
  cases n with
  | zero => rfl
  | succ n => exact if_pos h

theorem accAt_next (c : Dev nD) (t : Fin cfg1.N) (h : ¬ t.val % 48 = 0) :
    accAt V c t.val t.isLt = nextAt V c t (accAt V c (t.val - 1) (Nat.lt_of_le_of_lt (Nat.sub_le _ _) t.isLt)) := by
  obtain ⟨n, hn⟩ := t
  cases n with
  | zero => exact absurd (Nat.zero_mod _) h
  | succ n => exact if_neg h

/-- The proof data: the inputs stay at their blocks, the output's buffer runs through `accAt`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => accAt V c t.val t.isLt
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = accAt V c t.val t.isLt := by dsimp only [dat]

/-- Each input's staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Past a starting point the output's staging buffer holds what the point before left. -/
theorem before_5 (c : Dev nD) (t : Fin cfg1.N) (h : ¬ t.val % 48 = 0) (d) :
    (dat V c).before 5 t d = accAt V c (t.val - 1) (Nat.lt_of_le_of_lt (Nat.sub_le _ _) t.isLt) := by
  rw [Dat.before_out_traj _ 5 rfl (fun _ _ => rfl)
      (fun t _ hi _ => absurd ((never_idle t).symm.trans hi) Bool.false_ne_true) t.val t rfl d,
    if_neg (by rw [kept t h]; exact Bool.false_ne_true)]
  dsimp only [dat]

/-! ## The obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_0 (c : Dev nD) (t : Fin cfg1.N) : (dat V c).leavesExact 0 t = owns (c : Thread nD τ) (st1_0 t) fullShare (iblk V c 0 t) := by
  unfold Dat.leavesExact; rw [show cfg1.idle 0 (cfg1.grid.coords t) = false from rfl, after_0]
theorem leaves_1 (c : Dev nD) (t : Fin cfg1.N) : (dat V c).leavesExact 1 t = owns (c : Thread nD τ) (st1_1 t) fullShare (iblk V c 1 t) := by
  unfold Dat.leavesExact; rw [show cfg1.idle 1 (cfg1.grid.coords t) = false from rfl, after_1]
theorem leaves_2 (c : Dev nD) (t : Fin cfg1.N) : (dat V c).leavesExact 2 t = owns (c : Thread nD τ) (st1_2 t) fullShare (iblk V c 2 t) := by
  unfold Dat.leavesExact; rw [show cfg1.idle 2 (cfg1.grid.coords t) = false from rfl, after_2]
theorem leaves_3 (c : Dev nD) (t : Fin cfg1.N) : (dat V c).leavesExact 3 t = owns (c : Thread nD τ) (st1_3 t) fullShare (iblk V c 3 t) := by
  unfold Dat.leavesExact; rw [show cfg1.idle 3 (cfg1.grid.coords t) = false from rfl, after_3]
theorem leaves_4 (c : Dev nD) (t : Fin cfg1.N) : (dat V c).leavesExact 4 t = owns (c : Thread nD τ) (st1_4 t) fullShare (iblk V c 4 t) := by
  unfold Dat.leavesExact; rw [show cfg1.idle 4 (cfg1.grid.coords t) = false from rfl, after_4]
theorem leaves_5 (c : Dev nD) (t : Fin cfg1.N) :
    (dat V c).leavesExact 5 t = owns (c : Thread nD τ) (st1_5 t) fullShare (accAt V c t.val t.isLt) := by
  unfold Dat.leavesExact; rw [show cfg1.idle 5 (cfg1.grid.coords t) = false from never_idle t, after_5]

set_option maxHeartbeats 800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    leaves_0, leaves_1, leaves_2, leaves_3, leaves_4, leaves_5]
  by_cases h : t.val % 48 = 0
  · rw [accAt_first V c t h]
    unfold firstAt
    iintro ⟨HΦ, Ho, ⟨%d0, H0⟩, ⟨%d1, H1⟩, ⟨%d2, H2⟩, ⟨%d3, H3⟩, ⟨%d4, H4⟩, ⟨%d5, H5⟩⟩
    iapply (body_first c Set.univ (grid1.coords t) _ _ _ _ _ _ _ _ _ _ _ _ ((starts t).mpr h) (fun h' => (adds t).mp h' h)
      (iblk V c 0 t) (iblk V c 1 t) (iblk V c 2 t) (iblk V c 3 t) (iblk V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt_next V c t h]
    simp only [before_5 V c t h]
    unfold nextAt
    iintro ⟨HΦ, Ho, ⟨%d0, H0⟩, ⟨%d1, H1⟩, ⟨%d2, H2⟩, ⟨%d3, H3⟩, ⟨%d4, H4⟩, ⟨%d5, H5⟩⟩
    iapply (body_next c Set.univ (grid1.coords t) _ _ _ _ _ _ _ _ _ _ _ _ (fun h' => h ((starts t).mp h')) ((adds t).mpr h)
      (iblk V c 0 t) (iblk V c 1 t) (iblk V c 2 t) (iblk V c 3 t) (iblk V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem row (t : Fin cfg1.N) : defs₀ (F := F) .tc cfg1.body (cfg1.bodyArgs t (cfg1.slots t)) = bodyAt1 t := by
  unfold defs₀; rw [Defs.onTc_tc]

theorem obligation (c : Dev nD) : BodyObligation (dat (F := F) V c) (defs₀ (F := F)) Variants.none () Set.univ := fun t => by
  rw [bigSep_W1, bigSep_W1, row]
  exact triple_restated (body_at V c t) rfl .rfl fun _ => .rfl

end Data

end Cert.KernelIdeal.Experts

end
-- ==== Proof.Ideal.Run.lean ====
/- The run of `KernelIdeal`: its two calls among the host operations around them, from the launch to the return, over the contents of
   every buffer at each boundary. `run`: the program ends with every unscoped buffer at `final`, and every counter at zero. -/
module

public import proofs.«01_k».proof.Proof.Ideal.Router
public import proofs.«01_k».proof.Proof.Ideal.Experts
public import Idealize.ShloMosaic.Lib.Pipeline.RegionsLoop
public import Idealize.ShloMosaic.Lib.Pipeline.FrameSuffix
public import Idealize.ShloMosaic.Lib.StableHlo.RunHlo

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host operations allocate nothing, and what each writes -/

theorem fresh_0 : (hostOps0 : List (HloOp τ sig (Elt F))).Forall fun op => op.fresh = ∅ := by
  simp only [List.Forall]; repeat' constructor
theorem fresh_1 : (hostOps1 : List (HloOp τ sig (Elt F))).Forall fun op => op.fresh = ∅ := by
  simp only [List.Forall]; repeat' constructor
theorem fresh_2 : (hostOps2 : List (HloOp τ sig (Elt F))).Forall fun op => op.fresh = ∅ := by
  simp only [List.Forall]; repeat' constructor

theorem writes_0 : (hostOps0 : List (HloOp τ sig (Elt F))).Forall fun op =>
    op.writes ⊆ (([main_v0] : List (Ref sig .tc)).map (Proc.devRef (τ := τ) .tc)).toFinset := StableHlo.forall_writes_sub_of_map rfl
theorem writes_1 : (hostOps1 : List (HloOp τ sig (Elt F))).Forall fun op =>
    op.writes ⊆ (([main_call0_v1] : List (Ref sig .tc)).map (Proc.devRef (τ := τ) .tc)).toFinset := StableHlo.forall_writes_sub_of_map rfl
theorem writes_2 : (hostOps2 : List (HloOp τ sig (Elt F))).Forall fun op =>
    op.writes ⊆ (([main_v2] : List (Ref sig .tc)).map (Proc.devRef (τ := τ) .tc)).toFinset := StableHlo.forall_writes_sub_of_map rfl

variable (m : (ℓ : Loc nD τ sig) → Buf (Elt F) ℓ) (ρ : Dev nD → PrngReg)

/-! ## The buffers at each boundary -/

/-- At the launch, -/
abbrev B0 : Dev nD → Valuation τ sig (Elt F) := fun c b => (s₀ m ρ).mem ((c : Dev nD), b)
/-- the tokens reshaped, -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- the router done, -/
def B2 (c : Dev nD) : Valuation τ sig (Elt F) :=
  Pipeline.withArrays spec0 c (B1 m ρ c) fun w => (Router.dat (E1 m ρ) c).arrAt w cfg0.N
abbrev E2 : (c : Dev nD) → (b : Ref sig .tc) → Buf (Elt F) ((c : Thread nD τ).loc b) := fun c b => B2 m ρ c b
/-- the tokens cast, -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- the experts done, -/
def B4 (c : Dev nD) : Valuation τ sig (Elt F) :=
  Pipeline.withArrays spec1 c (B3 m ρ c) fun w => (Experts.dat (E3 m ρ) c).arrAt w cfg1.N
abbrev E4 : (c : Dev nD) → (b : Ref sig .tc) → Buf (Elt F) ((c : Thread nD τ).loc b) := fun c b => B4 m ρ c b
/-- and the result reshaped. -/
abbrev final : Dev nD → Valuation τ sig (Elt F) := fun c => StableHlo.after hostOps2 (B4 m ρ c)

theorem B1_of (c : Dev nD) (r : Ref sig .tc) (h : r ∉ [main_v0]) : B1 m ρ c (Proc.devRef .tc r) = B0 m ρ c (Proc.devRef .tc r) :=
  StableHlo.after_of_writes_sub hostOps0 _ writes_0 h
theorem B3_of (c : Dev nD) (r : Ref sig .tc) (h : r ∉ [main_call0_v1]) : B3 m ρ c (Proc.devRef .tc r) = B2 m ρ c (Proc.devRef .tc r) :=
  StableHlo.after_of_writes_sub hostOps1 _ writes_1 h
theorem final_of (c : Dev nD) (r : Ref sig .tc) (h : r ∉ [main_v2]) : final m ρ c (Proc.devRef .tc r) = B4 m ρ c (Proc.devRef .tc r) :=
  StableHlo.after_of_writes_sub hostOps2 _ writes_2 h

theorem B2_arr (c : Dev nD) (w : Fin cfg0.W) :
    B2 m ρ c (Proc.devRef .tc (Pipeline.arrRef spec0 w)) = (Router.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The router changes none but its output arrays. -/
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((Router.dat (E1 m ρ) c).arrAt_in w (h w rfl) _).trans (Router.A_eq (E1 m ρ) c w))
  · exact B2_of_ne m ρ c r fun w e => hw ⟨w, e⟩

theorem B4_arr (c : Dev nD) (w : Fin cfg1.W) :
    B4 m ρ c (Proc.devRef .tc (Pipeline.arrRef spec1 w)) = (Experts.dat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The experts' call changes none but its output array. -/
theorem B4_of (c : Dev nD) (r : Ref sig .tc) (h : ∀ w : Fin cfg1.W, Pipeline.arrRef spec1 w = r → (cfg1.win w).isOut = false) :
    B4 m ρ c (Proc.devRef .tc r) = B3 m ρ c (Proc.devRef .tc r) := by
  by_cases hw : ∃ w : Fin cfg1.W, Pipeline.arrRef spec1 w = r
  · obtain ⟨w, rfl⟩ := hw
    exact (B4_arr m ρ c w).trans (((Experts.dat (E3 m ρ) c).arrAt_in w (h w rfl) _).trans (Experts.A_eq (E3 m ρ) c w))
  · exact B4_of_ne m ρ c r fun w e => hw ⟨w, e⟩

abbrev args : List (Ref sig .tc) := [main_arg0, main_arg1, main_arg2, main_arg3, main_arg4]
theorem args_0 : ∀ a ∈ args, a ∉ [main_v0] ∧ a ∉ [main_call0_v1] ∧ a ∉ [main_v2] := ListAll.forall_mem_of_all_decide (by decide +kernel)
theorem args_router : ∀ a ∈ args, ∀ w : Fin cfg0.W, Pipeline.arrRef spec0 w = a → (cfg0.win w).isOut = false :=
  ListAll.forall_mem_of_all_decide (by decide +kernel)
theorem args_experts : ∀ a ∈ args, ∀ w : Fin cfg1.W, Pipeline.arrRef spec1 w = a → (cfg1.win w).isOut = false :=
  ListAll.forall_mem_of_all_decide (by decide +kernel)

theorem B1_args (c : Dev nD) (a : Ref sig .tc) (h : a ∈ args) : B1 m ρ c (Proc.devRef .tc a) = m ((c : Thread nD τ).loc a) :=
  B1_of m ρ c a (args_0 a h).1
theorem B3_args (c : Dev nD) (a : Ref sig .tc) (h : a ∈ args) : B3 m ρ c (Proc.devRef .tc a) = m ((c : Thread nD τ).loc a) :=
  (B3_of m ρ c a (args_0 a h).2.1).trans ((B2_of m ρ c a (args_router a h)).trans (B1_args m ρ c a h))
/-- Every argument ends as launched. -/
theorem final_args (c : Dev nD) (a : Ref sig .tc) (h : a ∈ args) : final m ρ c (Proc.devRef .tc a) = m ((c : Thread nD τ).loc a) :=
  (final_of m ρ c a (args_0 a h).2.2).trans ((B4_of m ρ c a (args_experts a h)).trans (B3_args m ρ c a h))

/-! ## The segments -/

abbrev tables : (p : Fin 2) → (pcfgs (F := F) p).Adm := fun p => (cfgs p).toPCfg_adm

/-- The two calls' proof data, each at its entry contents. -/
def datas : (p : Fin 2) → (c : Dev nD) → Dat τ (Elt F) Unit ℕ (UR sig nD τ) ℕ (Pipeline.pin (pcfgs (F := F)) tables p) c
  | ⟨0, _⟩ => fun c => Router.dat (E1 m ρ) c
  | ⟨1, _⟩ => fun c => Experts.dat (E3 m ρ) c

abbrev levels : GSem nD τ sig → Finset Unit := fun _ => ∅
abbrev level : GSem nD τ sig → Unit → ℕ := fun _ _ => 0

/-- What rides beside the buffers: the core's generator register, and that it owes nothing. -/
abbrev aside (c : Dev nD) : sProp 𝕄 := iprop((∃ r, prngReg c r) ∗ ∃ W, owes (c : Thread nD τ) (0 : CellTallies nD τ sig Unit) W)
/-- The state at a boundary: every unscoped buffer at its contents there. -/
abbrev at_ (B : Dev nD → Valuation τ sig (Elt F)) (c : Dev nD) : sProp 𝕄 :=
  iprop(StableHlo.held (c : Thread nD τ) (Pipeline.ucRefs τ sig) (B c) ∗ aside c)

/-- A stretch of host operations from contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none levels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B aside

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The router's call as a segment, from `B1` to `B2`. -/
def router : Pipeline.RegionSeg (pcfgs (F := F)) tables (datas m ρ) () defs₀ Variants.none levels level 0 where
  win := launch0.win.to₀
  block_pos := launch0.block_pos
  stage_whole := launch0.stage_whole
  K := PEmpty
  osem k := k.elim
  ho := Pipeline.OwnSemFacts.none _
  hbody c := (Router.obligation (E1 m ρ) c).loose
  hwaits := Pipeline.hwaits_of_owed_zero _ _ _ _ levels level 0 fun _ _ => rfl
  pre := at_ (B1 m ρ)
  post := at_ (B2 m ρ)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tables (datas m ρ) launch0.win launch0.arr_whole c
      ((datas m ρ 0 c).share_full fun _ => rfl) (E1 m ρ c) (Router.A_eq (E1 m ρ) c)
    rw [Pipeline.unscopedBufs_held] at hsplit
    iintro ⟨⟨Hbufs, Hreg, Howe⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W; isplitr; · ipureintro; exact fun _ _ => Or.inl trivial
      iexact Howe
    isplitl [Hreg]; · iexact Hreg
    iexact Hrest
  hin c := by
    rw [show (datas m ρ 0 c).Φ 0 = Pipeline.ΦA spec0 c from rfl]; unfold Pipeline.ΦA
    iintro ⟨Hreg, -, Hrest⟩
    isplitl [Hrest]; · iexact Hrest
    iexact Hreg
  hout c := by
    rw [Pipeline.ownSems0_none, show (datas m ρ 0 c).Φ (Fin.last _) = Pipeline.ΦA spec0 c from rfl]; unfold Pipeline.ΦA
    iintro ⟨Hrest, Hreg⟩
    isplitl [Hreg]; · iexact Hreg
    isplitr; · iempintro
    iexact Hrest
  hexit c := by
    have hjoin := Pipeline.unscopedBufs_of_arrays (p := 0) (pcfgs (F := F)) tables (Ix := Unit) (Name := ℕ) (U := UR sig nD τ) (Lvl := ℕ)
      launch0.win launch0.arr_whole c (datas m ρ) ((datas m ρ 0 c).share_full fun _ => rfl)
      (E1 m ρ c) (E2 m ρ c) ((datas m ρ 0 c).arrAt · cfg0.N) (fun w => (B2_arr m ρ c w).symm)
      (fun b hb => B2_of_ne m ρ c b fun w e => hb (Finset.mem_image.mpr ⟨w, Finset.mem_univ _, e⟩))
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

set_option backward.isDefEq.respectTransparency.types false in
/-- The experts' call as a segment, from `B3` to `B4`. -/
def experts : Pipeline.RegionSeg (pcfgs (F := F)) tables (datas m ρ) () defs₀ Variants.none levels level 1 where
  win := launch1.win.to₀
  block_pos := launch1.block_pos
  stage_whole := launch1.stage_whole
  K := PEmpty
  osem k := k.elim
  ho := Pipeline.OwnSemFacts.none _
  hbody c := (Experts.obligation (E3 m ρ) c).loose
  hwaits := Pipeline.hwaits_of_owed_zero _ _ _ _ levels level 1 fun _ _ => rfl
  pre := at_ (B3 m ρ)
  post := at_ (B4 m ρ)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tables (datas m ρ) launch1.win launch1.arr_whole c
      ((datas m ρ 1 c).share_full fun _ => rfl) (E3 m ρ c) (Experts.A_eq (E3 m ρ) c)
    rw [Pipeline.unscopedBufs_held] at hsplit
    iintro ⟨⟨Hbufs, Hreg, Howe⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W; isplitr; · ipureintro; exact fun _ _ => Or.inl trivial
      iexact Howe
    isplitl [Hreg]; · iexact Hreg
    iexact Hrest
  hin c := by
    rw [show (datas m ρ 1 c).Φ 0 = Pipeline.ΦA spec1 c from rfl]; unfold Pipeline.ΦA
    iintro ⟨Hreg, -, Hrest⟩
    isplitl [Hrest]; · iexact Hrest
    iexact Hreg
  hout c := by
    rw [Pipeline.ownSems0_none, show (datas m ρ 1 c).Φ (Fin.last _) = Pipeline.ΦA spec1 c from rfl]; unfold Pipeline.ΦA
    iintro ⟨Hrest, Hreg⟩
    isplitl [Hreg]; · iexact Hreg
    isplitr; · iempintro
    iexact Hrest
  hexit c := by
    have hjoin := Pipeline.unscopedBufs_of_arrays (p := 1) (pcfgs (F := F)) tables (Ix := Unit) (Name := ℕ) (U := UR sig nD τ) (Lvl := ℕ)
      launch1.win launch1.arr_whole c (datas m ρ) ((datas m ρ 1 c).share_full fun _ => rfl)
      (E3 m ρ c) (E4 m ρ c) ((datas m ρ 1 c).arrAt · cfg1.N) (fun w => (B4_arr m ρ c w).symm)
      (fun b hb => B4_of_ne m ρ c b fun w e => hb (Finset.mem_image.mpr ⟨w, Finset.mem_univ _, e⟩))
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

/-- The program's five segments in order. -/
abbrev items : List (Pipeline.Seg (pcfgs (F := F)) tables (datas m ρ) () defs₀ Variants.none levels level) :=
  [ .host (stretch hostOps0 hostOps0_sub fresh_0 (B0 m ρ)),
    .region (router m ρ),
    .host (stretch hostOps1 hostOps1_sub fresh_1 (B2 m ρ)),
    .region (experts m ρ),
    .host (stretch hostOps2 hostOps2_sub fresh_2 (B4 m ρ)) ]

theorem main_items (c : Dev nD) : main (F := F) c = Pipeline.Seg.run (items m ρ) := (main_chain c).trans (by chain_rfl)

theorem sems_scoped : ∀ sm : SemLoc sig, sm.isScoped .tc = true := by decide

set_option backward.isDefEq.respectTransparency.types false in
/-- The program runs: it ends with every unscoped buffer at `final` and every counter at zero. -/
theorem run : θ_run defs (onTc (τ := τ) (main (F := F))) ⟨m, fun _ => 0, ρ⟩ (fun r =>
      (∀ c : Dev nD, ∀ b : Ref sig .tc, ¬ (Proc.devRef .tc b : DevRef τ sig).isScoped →
        r.2.mem ((c : Thread nD τ).loc b) = final m ρ c (Proc.devRef .tc b)) ∧ r.2.sem = fun _ => 0) :=
  Pipeline.θ_run_regions_kit_sems (pcfgs (F := F)) tables (datas m ρ) () cellOf_inj emb₁ defs₀ Variants.none levels level m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (B0 m ρ))
    (Tₙ := fun c => iprop(StableHlo.held (c : Thread nD τ) (Pipeline.ucRefs τ sig) (final m ρ c) ∗ ∃ r, prngReg c r))
    (hch := ⟨fun _ => .rfl, fun _ => .rfl, fun _ => .rfl, fun _ => .rfl, fun _ => .rfl, fun c => by
      dsimp only [Pipeline.Seg.post, stretch, Pipeline.HostSeg.ofOps]
      iintro ⟨Hbufs, Hreg, Howe⟩
      isplitl [Hbufs Hreg]
      · isplitl [Hbufs]; · iexact Hbufs
        iexact Hreg
      iexact Howe⟩)
    (hinit := by
      refine Pipeline.initEach levels level fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = final m ρ c b)
    (hfin := fun c s' => by
      iintro ⟨⟨Hbufs, -⟩, Hst⟩
      unfold StableHlo.held
      imodintro
      iapply (pointsTo_read_all (Pipeline.ucRefs τ sig) (fun b => (((c : Thread nD τ)).1, b)) (final m ρ c) s')
      isplitl [Hbufs] <;> iassumption)
    (hQ := fun s h hz => ⟨fun c b hb => h c _ (unscoped_mem b hb), funext fun g => hz g (.inr (sems_scoped g.2))⟩)

/-- Its arguments end as launched and its counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run m ρ) fun r h => ⟨fun c =>
    have get (a : Ref sig .tc) (ha : a ∈ args) (hs : ¬ (Proc.devRef .tc a : DevRef τ sig).isScoped) :
        r.2.mem ((c : Thread nD τ).loc a) = m ((c : Thread nD τ).loc a) := (h.1 c a hs).trans (final_args m ρ c a ha)
    ⟨get _ (by decide) (by decide), get _ (by decide) (by decide), get _ (by decide) (by decide), get _ (by decide) (by decide),
      get _ (by decide) (by decide)⟩, h.2⟩

end Cert.KernelIdeal.Run

end
-- ==== Proof.Value.Top.lean ====
/- The two greatest of sixteen: the kernel's way of finding them (a maximum, the least lane that attains it, the lane masked
   out, a maximum again) and a stable sort by value. Extended reals and lanes only, no program. -/
module

public import Idealize.ShloMosaic.PureOps.Ideal.Laws
public import Idealize.ShloMosaic.Lib.SortPrefix
public import Idealize.ShloMosaic.Lib.SortNet.Extract
public import Idealize.ShloMosaic.Lib.WordCmp
public import Idealize.ShloMosaic.Lib.IdealHost

@[expose] public section

noncomputable section

namespace Cert.Value

open Idealize.ShloMosaic

abbrev Row : Type := Fin 16 → EReal

/-- The greatest entry of a row. -/
def top (p : Row) : EReal := Finset.univ.fold max ⊥ p

theorem le_top' (p : Row) (i : Fin 16) : p i ≤ top p :=
  ((Finset.fold_op_rel_iff_and (r := (· ≥ ·)) (s := Finset.univ) (op := max) (b := (⊥ : EReal)) (f := p) (c := top p)
    (fun {x y z} => max_le_iff)).mp le_rfl).2 i (Finset.mem_univ i)

theorem top_le (p : Row) (c : EReal) (h : ∀ i, p i ≤ c) : top p ≤ c :=
  (Finset.fold_op_rel_iff_and (r := (· ≥ ·)) (s := Finset.univ) (op := max) (b := (⊥ : EReal)) (f := p) (c := c)
    (fun {x y z} => max_le_iff)).mpr ⟨bot_le, fun i _ => h i⟩

/-- `a` is the first lane that holds the row's greatest entry. -/
structure First (p : Row) (a : Fin 16) : Prop where
  le : ∀ j, p j ≤ p a
  lt : ∀ j, j < a → p j < p a

theorem First.top {p : Row} {a : Fin 16} (h : First p a) : top p = p a :=
  le_antisymm (top_le p _ h.le) (le_top' p a)

theorem exists_first (p : Row) : ∃ a, First p a := by
  classical
  obtain ⟨m, -, hm⟩ := Finset.exists_max_image Finset.univ p ⟨0, Finset.mem_univ 0⟩
  have hne : (Finset.univ.filter fun i => p i = p m).Nonempty := ⟨m, by simp⟩
  have ha := Finset.min'_mem _ hne
  have hp : p ((Finset.univ.filter fun i => p i = p m).min' hne) = p m := (Finset.mem_filter.mp ha).2
  have hle : ∀ j, p j ≤ p ((Finset.univ.filter fun i => p i = p m).min' hne) := fun j => by
    rw [hp]; exact hm j (Finset.mem_univ j)
  refine ⟨_, hle, fun j hj => lt_of_le_of_ne (hle j) fun e => ?_⟩
  exact absurd (Finset.min'_le _ j (by simp [e, hp])) (not_le.mpr hj)

/-- The least lane word among those that attain the row's greatest entry, as the kernel computes it. -/
def arg (p : Row) : BitVec 32 :=
  Finset.univ.fold IntOp.minsi (2147483647#32) fun i => if p i = top p then BitVec.ofNat 32 i.val else 16#32

theorem toInt_lane (i : Fin 16) : (BitVec.ofNat 32 i.val).toInt = i.val := by
  revert i; decide

theorem arg_eq {p : Row} {a : Fin 16} (h : First p a) : arg p = BitVec.ofNat 32 a.val := by
  have hr : ∀ {x y z : BitVec 32}, x.toInt ≤ (IntOp.minsi y z).toInt ↔ x.toInt ≤ y.toInt ∧ x.toInt ≤ z.toInt := by
    intro x y z
    rw [SortNet.toInt_minsi]; exact le_min_iff
  have key := fun c : BitVec 32 => Finset.fold_op_rel_iff_and (r := fun x y : BitVec 32 => x.toInt ≤ y.toInt)
    (s := Finset.univ) (op := IntOp.minsi) (b := 2147483647#32)
    (f := fun i : Fin 16 => if p i = top p then BitVec.ofNat 32 i.val else 16#32) (c := c) hr
  refine BitVec.eq_of_toInt_eq (le_antisymm ?_ ?_)
  · have := ((key (arg p)).mp le_rfl).2 a (Finset.mem_univ a)
    rwa [if_pos h.top.symm] at this
  · refine (key _).mpr ⟨?_, fun i _ => ?_⟩
    · rw [toInt_lane]; have := a.isLt; change (a.val : Int) ≤ 2147483647; omega
    · rw [toInt_lane]
      split
      · rename_i hi
        rw [toInt_lane]
        by_contra hlt
        have : i < a := by rw [Fin.lt_def]; omega
        exact absurd (hi.trans h.top) (h.lt i this).ne
      · have := a.isLt; change (a.val : Int) ≤ 16; omega

/-- The lane test of the kernel, on lane words. -/
theorem lane_eq {α : Type} (i a : Fin 16) (x y : α) :
    Scalar.select (IntOp.cmpi .eq (BitVec.ofNat 32 i.val) (BitVec.ofNat 32 a.val)) x y = if i = a then x else y := by
  have : IntOp.cmpi .eq (BitVec.ofNat 32 i.val) (BitVec.ofNat 32 a.val) = if i = a then 1#1 else 0#1 := by
    revert i a; decide
  rw [this]
  split <;> rfl

/-- The row with the first greatest lane masked out, as the kernel computes it. -/
def rest (p : Row) : Row := fun i => Scalar.select (IntOp.cmpi .eq (BitVec.ofNat 32 i.val) (arg p)) ⊥ (p i)

theorem rest_eq {p : Row} {a : Fin 16} (h : First p a) (i : Fin 16) : rest p i = if i = a then ⊥ else p i := by
  unfold rest; rw [arg_eq h, lane_eq]

/-- Lane `k` sorts before lane `k'` when its entry is greater. -/
def above (p : Row) (k k' : Fin 16) : Bool := decide (p k' < p k)

/-- Lane `k` sorts before lane `k'` when its entry is greater, or the entries are equal and it is the earlier lane. -/
def aboveThenFirst (p : Row) (k k' : Fin 16) : Bool := decide (p k' < p k) || (decide (p k = p k') && decide (k < k'))

theorem insertBefore_congr {ι : Type} (R R' : ι → ι → Bool) (a : ι) :
    ∀ l : List ι, (∀ b ∈ l, R b a = R' b a) → insertBefore R a l = insertBefore R' a l
  | [], _ => rfl
  | b :: l, h => by
    unfold insertBefore
    rw [h b (by simp), insertBefore_congr R R' a l fun c hc => h c (by simp [hc])]

/-- The stable sort asks its relation only whether a later element goes before an earlier one. -/
theorem stableSort_congr {ι : Type} (R R' : ι → ι → Bool) :
    ∀ l : List ι, l.Pairwise (fun a b => R b a = R' b a) → stableSort R l = stableSort R' l
  | [], _ => rfl
  | a :: l, h => by
    rw [List.pairwise_cons] at h
    unfold stableSort
    rw [stableSort_congr R R' l h.2]
    exact insertBefore_congr R R' a _ fun b hb => h.1 b ((perm_stableSort R' l).mem_iff.mp hb)

theorem sortedFrom_of_positions {n : Nat} (R R' : Fin n → Fin n → Bool) (e : sortPositions n R = sortPositions n R') :
    sortedFrom R = sortedFrom R' := by
  funext k
  unfold sortedFrom
  simp only [List.get_eq_getElem, Fin.val_cast]
  exact List.getElem_of_eq e _

theorem sortedFrom_above (p : Row) : sortedFrom (above p) = sortedFrom (aboveThenFirst p) := by
  refine sortedFrom_of_positions _ _ (stableSort_congr _ _ _ ((List.pairwise_lt_finRange 16).imp fun {a b} hab => ?_))
  simp [above, aboveThenFirst, not_lt_of_gt hab]

theorem strictTotal (p : Row) : StrictTotalBefore (aboveThenFirst p) := by
  classical
  have h := StrictTotalBefore.of_key_then_position (fun x y : EReal => decide (y < x)) p (by simp)
    (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)
  have e : aboveThenFirst p = fun k k' : Fin 16 => (fun x y : EReal => decide (y < x)) (p k) (p k') || (decide (p k = p k') && decide (k < k')) := by
    funext k k'
    unfold aboveThenFirst
    congr
  rw [e]; exact h

/-- The first two places of the sort are the first greatest lane and the first greatest of the others. -/
theorem sortedFrom_two {p : Row} {a b : Fin 16} (ha : First p a) (hb : First (rest p) b) (hab : b ≠ a) (s : Fin 2) :
    sortedFrom (above p) (s.castLE (by decide)) = ![a, b] s := by
  rw [sortedFrom_above]
  have hpb : rest p b = p b := by rw [rest_eq ha, if_neg hab]
  refine (strictTotal p).sortedFrom_eq_of_prefix (by decide) ![a, b] ?_ ?_ ?_ s
  · intro i j h
    fin_cases i <;> fin_cases j <;> simp_all
  · intro i j h
    have hi : i = 0 := by revert h; revert i j; decide
    have hj : j = 1 := by revert h; revert i j; decide
    subst hi hj
    show aboveThenFirst p b a = false
    unfold aboveThenFirst
    rcases lt_or_eq_of_le (ha.le b) with h | h
    · simp [not_lt_of_gt h, h.ne]
    · have : ¬ b < a := fun hlt => absurd h (ha.lt b hlt).ne
      simp [h, this]
  · intro i q hq
    have hqa : q ≠ a := fun e => hq 0 e.symm
    have hqb : q ≠ b := fun e => hq 1 e.symm
    have step : ∀ (c : Fin 16) (r : Row), First r c → r c = p c → r q = p q → aboveThenFirst p q c = false := by
      intro c r hc e1 e2
      unfold aboveThenFirst
      have hle := hc.le q
      rw [e1, e2] at hle
      rcases lt_or_eq_of_le hle with h | h
      · simp [not_lt_of_gt h, h.ne]
      · have : ¬ q < c := fun hlt => absurd h (by have := hc.lt q hlt; rw [e1, e2] at this; exact this.ne)
        simp [h, this]
    fin_cases i
    · exact step a p ha rfl rfl
    · exact step b (rest p) hb hpb (by rw [rest_eq ha, if_neg hqa])

end Cert.Value

end
-- ==== Proof.Value.Weights.lean ====
/- A token's expert weights from its sixteen logits: the softmax, its two greatest entries divided by their sum, zero
   elsewhere. The kernel's form and a sort's form agree on every row of extended reals, and the weights are nonnegative and
   finite. No program. -/
module

public import proofs.«01_k».proof.Proof.Value.Top

@[expose] public section

noncomputable section

namespace Cert.Value

open Idealize.ShloMosaic

/-- The softmax of a row. -/
def soft (l : Row) : Row := fun i => Ideal.div (Ideal.exp (l i - top l)) (∑ k, Ideal.exp (l k - top l))

/-- The weights as the kernel computes them from the softmax `p`. -/
def route (p : Row) : Row := fun i =>
  Scalar.select (IntOp.cmpi .eq (BitVec.ofNat 32 i.val) (arg p))
    (top p * Ideal.div 1 (top p + top (rest p)))
    (Scalar.select (IntOp.cmpi .eq (BitVec.ofNat 32 i.val) (arg (rest p))) (top (rest p) * Ideal.div 1 (top p + top (rest p))) 0)

/-- The lane that a stable sort by value, greatest first, puts at place `s`. -/
def place (p : Row) (s : Fin 2) : Fin 16 := sortedFrom (above p) (s.castLE (by decide))

/-- The weights from the sort: the entries of the first two places, divided by their sum, put back at their lanes. -/
def spread (p : Row) : Row := fun i =>
  ∑ s, if place p s = i then Ideal.div (p (place p s)) (∑ r, p (place p r)) else 0

/-- What a softmax of extended reals is: `⊥` everywhere (an infinite maximum), or finite, nonnegative and somewhere positive. -/
def Sound (p : Row) : Prop := (∀ i, p i = ⊥) ∨ ((∀ i, 0 ≤ p i ∧ p i ≠ ⊤) ∧ ∃ i, 0 < p i)

theorem exp_bot : Ideal.exp ⊥ = 0 := rfl
theorem exp_zero : Ideal.exp 0 = 1 := by
  show ((Real.exp 0 : ℝ) : EReal) = 1
  rw [Real.exp_zero]; rfl

theorem exp_nonneg (x : EReal) : 0 ≤ Ideal.exp x := by
  induction x with
  | bot => exact le_rfl
  | top => exact le_top
  | coe r => exact EReal.coe_nonneg.mpr (Real.exp_pos r).le

theorem exp_ne_top (x : EReal) (h : x ≠ ⊤) : Ideal.exp x ≠ ⊤ := by
  induction x with
  | bot => exact EReal.zero_ne_top
  | top => exact absurd rfl h
  | coe r => exact EReal.coe_ne_top _

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (by simp)) (ih fun i hi => h i (by simp [hi]))

/-- A quotient of finite nonnegative numbers by a positive one is finite and nonnegative. -/
theorem div_sound {x s : EReal} (hx : 0 ≤ x) (hx' : x ≠ ⊤) (hs : 0 < s) : 0 ≤ Ideal.div x s ∧ Ideal.div x s ≠ ⊤ := by
  unfold Ideal.div
  rw [if_neg hs.ne']
  refine ⟨mul_nonneg hx (EReal.inv_nonneg_of_nonneg hs.le), ?_⟩
  lift x to ℝ using ⟨hx', (EReal.bot_lt_zero.trans_le hx).ne'⟩
  induction s with
  | bot => exact absurd hs (by simp)
  | top => simp
  | coe r => rw [← EReal.coe_inv, ← EReal.coe_mul]; exact EReal.coe_ne_top _

theorem soft_bot (l : Row) (h : ∀ i, l i - top l = ⊥) (i : Fin 16) : soft l i = ⊥ := by
  unfold soft
  simp only [h, exp_bot, Finset.sum_const_zero]
  unfold Ideal.div
  simp

theorem soft_sound (l : Row) : Sound (soft l) := by
  obtain ⟨a, ha⟩ := exists_first l
  have hle := ha.le
  by_cases h1 : l a = ⊥
  · refine Or.inl (soft_bot l fun i => ?_)
    have : l i = ⊥ := le_bot_iff.mp (h1 ▸ hle i)
    rw [this, ha.top, h1]; rfl
  by_cases h2 : l a = ⊤
  · refine Or.inl (soft_bot l fun i => ?_)
    rw [ha.top, h2, sub_eq_add_neg]; exact EReal.add_bot _
  refine Or.inr ?_
  have hself : l a - top l = 0 := by rw [ha.top]; exact EReal.sub_self h2 h1
  have hfin : ∀ i, l i - top l ≠ ⊤ := fun i => by
    rw [ha.top, sub_eq_add_neg]
    exact EReal.add_ne_top (fun e => h2 (top_le_iff.mp (e ▸ hle i))) (fun e => h1 (EReal.neg_eq_top_iff.mp e))
  have hpos : 0 < ∑ k, Ideal.exp (l k - top l) := by
    have h := Finset.single_le_sum (f := fun k => Ideal.exp (l k - top l)) (fun k _ => exp_nonneg _) (Finset.mem_univ a)
    refine lt_of_lt_of_le ?_ h
    show 0 < Ideal.exp (l a - top l)
    rw [hself, exp_zero]; exact zero_lt_one
  refine ⟨fun i => div_sound (exp_nonneg _) (exp_ne_top _ (hfin i)) hpos, a, ?_⟩
  have hs := sum_ne_top Finset.univ (fun k => Ideal.exp (l k - top l)) fun k _ => exp_ne_top _ (hfin k)
  unfold soft Ideal.div
  rw [if_neg hpos.ne', hself, exp_zero, one_mul]
  exact EReal.inv_pos_of_pos_ne_top hpos hs

/-- Nonnegative and finite. -/
def Fine (x : EReal) : Prop := 0 ≤ x ∧ x ≠ ⊤

theorem fine_zero : Fine 0 := ⟨le_rfl, EReal.zero_ne_top⟩

/-- On a row of `⊥` every weight is zero, whatever the lanes. -/
theorem weights_bot (p : Row) (h : ∀ i, p i = ⊥) (i : Fin 16) : route p i = 0 ∧ spread p i = 0 := by
  obtain ⟨a, ha⟩ := exists_first p
  obtain ⟨b, hb⟩ := exists_first (rest p)
  have h1 : top p = ⊥ := by rw [ha.top, h]
  have h2 : top (rest p) = ⊥ := by
    rw [hb.top, rest_eq ha, h]; exact ite_self _
  have h0 : (⊥ : EReal) * Ideal.div 1 (⊥ + ⊥) = 0 := by
    rw [EReal.bot_add]
    unfold Ideal.div
    simp
  have h3 : Ideal.div ⊥ ⊥ = 0 := by unfold Ideal.div; simp
  constructor
  · unfold route
    rw [h1, h2, h0, arg_eq ha, arg_eq hb, lane_eq, lane_eq]
    simp
  · unfold spread
    simp only [h, Fin.sum_univ_two, EReal.bot_add, h3, ite_self, add_zero]

theorem weights_eq (p : Row) (h : Sound p) (i : Fin 16) : spread p i = route p i ∧ Fine (route p i) := by
  rcases h with h | ⟨hf, k, hk⟩
  · obtain ⟨h1, h2⟩ := weights_bot p h i
    rw [h1, h2]; exact ⟨rfl, fine_zero⟩
  obtain ⟨a, ha⟩ := exists_first p
  obtain ⟨b, hb⟩ := exists_first (rest p)
  have hsucc : ∀ c : Fin 16, c + 1 ≠ c := by decide
  have hab : b ≠ a := by
    rintro rfl
    have h0 := hb.le (b + 1)
    rw [rest_eq ha, rest_eq ha, if_pos rfl, if_neg (hsucc b)] at h0
    exact absurd (le_bot_iff.mp h0) (EReal.bot_lt_zero.trans_le (hf _).1).ne'
  have hpa : 0 < p a := lt_of_lt_of_le hk (ha.le k)
  have htb : top (rest p) = p b := by rw [hb.top, rest_eq ha, if_neg hab]
  have hs : 0 < p a + p b := add_pos_of_pos_of_nonneg hpa (hf b).1
  have hmul : ∀ x : EReal, x * Ideal.div 1 (p a + p b) = Ideal.div x (p a + p b) := fun x => by
    unfold Ideal.div
    rw [if_neg hs.ne', if_neg hs.ne', one_mul]
  have hr : route p i = if i = a then Ideal.div (p a) (p a + p b) else if i = b then Ideal.div (p b) (p a + p b) else 0 := by
    unfold route
    rw [ha.top, htb, arg_eq ha, arg_eq hb, lane_eq, lane_eq, hmul, hmul]
  have h0 : place p 0 = a := sortedFrom_two ha hb hab 0
  have h1 : place p 1 = b := sortedFrom_two ha hb hab 1
  have hsp : spread p i = (if a = i then Ideal.div (p a) (p a + p b) else 0) + (if b = i then Ideal.div (p b) (p a + p b) else 0) := by
    unfold spread
    simp only [Fin.sum_univ_two, h0, h1]
  rw [hr, hsp]
  by_cases e1 : i = a
  · subst e1
    rw [if_pos rfl, if_neg hab, if_pos rfl, add_zero]
    exact ⟨rfl, div_sound (hf _).1 (hf _).2 hs⟩
  · rw [if_neg (Ne.symm e1), if_neg e1, zero_add]
    by_cases e2 : i = b
    · subst e2
      rw [if_pos rfl]
      exact ⟨rfl, div_sound (hf _).1 (hf _).2 hs⟩
    · rw [if_neg (Ne.symm e2), if_neg e2]; exact ⟨rfl, fine_zero⟩

end Cert.Value

end
-- ==== Proof.Value.Blocks.lean ====
/- What the two kernels' bodies compute, element by element: the router's logits and weights, and one expert block's addition. -/
module

public import proofs.«01_k».proof.Proof.Ideal.Router
public import proofs.«01_k».proof.Proof.Ideal.Experts
public import proofs.«01_k».proof.Proof.Value.Weights
public import Idealize.ShloMosaic.Lib.Pointwise

@[expose] public section

set_option maxRecDepth 16384

noncomputable section

namespace Cert.Value

open Idealize.ShloMosaic Cert.KernelIdeal Cert.KernelIdeal.Gen

theorem ofBits_negInf : Ideal.ofBits FTy.f32 4286578688#32 = ⊥ := by
  simp [Ideal.ofBits, Ideal.ieee]

section router
variable (x : Vec Ideal S4096x2048 .f32) (w : Vec Ideal S16x2048 .f32) (t : Fin 4096)

theorem logits_at (e : Fin 16) : k0_pay2 (F := Ideal) x w (ix2 t e) = ∑ k : Fin 2048, x (ix2 t k) * w (ix2 e k) := by
  pointwise [k0_pay2]

/-- A token's softmax row, in the kernel. -/
theorem soft_at (e : Fin 16) : k0_pay3 (F := Ideal) x w (ix2 t e) = soft (fun i => k0_pay2 (F := Ideal) x w (ix2 t i)) e := by
  pointwise [k0_pay3]
  rw [ofBits_negInf]; rfl

theorem top_at : k0_pay4 (F := Ideal) x w (ix2 t 0) = top fun i => k0_pay3 (F := Ideal) x w (ix2 t i) := by
  pointwise [k0_pay4]
  rw [ofBits_negInf]; rfl

theorem arg_at : k0_pay5 (F := Ideal) x w (ix2 t 0) = arg fun i => k0_pay3 (F := Ideal) x w (ix2 t i) := by
  pointwise [k0_pay5]
  rw [top_at]; rfl

theorem weights_at (e : Fin 16) :
    Router.weights (F := Ideal) x w (ix2 t e) = route (soft fun i => k0_pay2 (F := Ideal) x w (ix2 t i)) e := by
  pointwise [Router.weights, k0_pay1, k0_pay6, k0_pay7, k0_pay8, k0_pay9, k0_pay10, k0_pay11]
  rw [arg_at, top_at, ofBits_negInf]
  simp only [soft_at]
  rfl

end router

section experts
variable (i : grid1.Coords) (x : Vec Ideal S1024x2048 .bf16) (w : Vec Ideal S1024x16 .f32)
  (g u : Vec Ideal S1x256x2048 .f32) (d : Vec Ideal S1x2048x256 .f32) (acc : Vec Ideal S1024x2048 .f32) (r : Fin 1024) (k : Fin 2048)

/-- One expert block's product at a token and an output column. -/
def block (x : Vec Ideal S1024x2048 .bf16) (g u : Vec Ideal S1x256x2048 .f32) (d : Vec Ideal S1x2048x256 .f32) (r : Fin 1024) (k : Fin 2048) : EReal :=
  ∑ f : Fin 256, ((∑ j : Fin 2048, x (ix2 r j) * g (ix3 0 f j)) * Ideal.div 1 (1 + Ideal.exp (-∑ j : Fin 2048, x (ix2 r j) * g (ix3 0 f j)))
    * ∑ j : Fin 2048, x (ix2 r j) * u (ix3 0 f j)) * d (ix3 0 k f)

/-- The weight of the point's expert: the masked row sum picks one lane. -/
theorem pick (e : Fin 16) (he : (i 1).val = e.val) (v : Fin 16 → EReal) :
    (∑ l : Fin 16, Scalar.select (IntOp.cmpi CmpIPredicate.eq (BitVec.ofNat 32 l.val) (BitVec.ofNat 32 (i 1).val)) (v l) 0) = v e := by
  simp only [he, lane_eq]
  simp

theorem next_at (e : Fin 16) (he : (i 1).val = e.val) :
    Experts.next (F := Ideal) i x w g u d acc (ix2 r k) = acc (ix2 r k) + block x g u d r k * w (ix2 r e) := by
  pointwise [Experts.next, k1_pay1, k1_pay3, k1_pay4, k1_pay5]
  simp only [zero_sub, zero_add]
  rw [pick i e he fun l => w (ix2 r l)]; rfl

theorem first_at (e : Fin 16) (he : (i 1).val = e.val) :
    Experts.first (F := Ideal) i x w g u d (ix2 r k) = block x g u d r k * w (ix2 r e) := by
  pointwise [Experts.first, k1_pay1, k1_pay2, k1_pay4, k1_pay5]
  simp only [zero_sub, zero_add]
  rw [pick i e he fun l => w (ix2 r l)]; rfl
end experts

end Cert.Value

end
-- ==== Proof.Value.Arrays.lean ====
/- What the two calls leave in their output arrays, as functions of the arrays they read: the router's whole arrays at its one
   point, and the experts' output as a sum over the experts and their inner rows. -/
module

public import proofs.«01_k».proof.Proof.Value.Blocks
public import proofs.«01_k».proof.Proof.Gen.KernelIdeal.Points
public import Idealize.ShloMosaic.Lib.Pipeline.ValueKit

@[expose] public section

set_option maxRecDepth 16384

noncomputable section

namespace Cert.Value

open Idealize.ShloMosaic Idealize.ShloMosaic.TcCoe Idealize.ShloMosaic.Pipeline Cert.KernelIdeal Cert.KernelIdeal.Gen

/-! ## Multiplying a sum by a weight -/

/-- Multiplication by a nonnegative finite weight distributes over a sum of any extended reals. -/
theorem sum_mul_fine {ι : Type} (s : Finset ι) (f : ι → EReal) (w : EReal) (hw : Fine w) :
    (∑ i ∈ s, f i) * w = ∑ i ∈ s, f i * w := by
  classical
  induction s using Finset.induction_on with
  | empty => simp
  | insert a s ha ih => rw [Finset.sum_insert ha, Finset.sum_insert ha, ← ih, EReal.right_distrib_of_nonneg_of_ne_top hw.1 hw.2]

/-! ## The experts' output, off the arrays -/

/-- An expert's inner row `f` at token `T`: the gate's product through its sigmoid, times the up product. -/
def hidden (x : Vec Ideal S4096x2048 .bf16) (g u : Vec Ideal S16x768x2048 .f32) (T : Fin 4096) (e : Fin 16) (f : Fin 768) : EReal :=
  (∑ j : Fin 2048, x (ix2 T j) * g (ix3 e f j)) * Ideal.div 1 (1 + Ideal.exp (-∑ j : Fin 2048, x (ix2 T j) * g (ix3 e f j)))
    * ∑ j : Fin 2048, x (ix2 T j) * u (ix3 e f j)

/-- The experts' outputs mixed by the weights, at token `T` and column `k`. -/
def mixed (x : Vec Ideal S4096x2048 .bf16) (w : Vec Ideal S4096x16 .f32) (g u : Vec Ideal S16x768x2048 .f32)
    (d : Vec Ideal S16x2048x768 .f32) (T : Fin 4096) (k : Fin 2048) : EReal :=
  ∑ e : Fin 16, ∑ f : Fin 768, hidden x g u T e f * w (ix2 T e) * d (ix3 e k f)

variable (V : (c : Dev nD) → (b : Ref sig .tc) → Buf (Elt Ideal) ((c : Thread nD τ).loc b)) (c : Dev nD)

/-! ## The router's arrays -/

theorem index0_0 : win0_0.index t0_0 = ![0, 0] := by decide +kernel
theorem index0_1 : win0_1.index t0_0 = ![0, 0] := by decide +kernel

theorem tokens_block : Router.iblk V c 0 t0_0 = V c main_v0 := by
  blk_ext! [Router.iblk, index0_0]

theorem weight_block : Router.iblk V c 1 t0_0 = V c main_arg1 := by
  blk_ext! [Router.iblk, index0_1]

theorem router_logits : (Router.dat V c).arrAt 2 cfg0.N = k0_pay2 (F := Ideal) (V c main_v0) (V c main_arg1) := by
  refine (Router.dat V c).arrAt_eq_of_after_last 2 t0_0 (by decide +kernel) _ fun j => ?_
  blk_simp
  rw [Router.after_2, tokens_block, weight_block]

theorem router_weights : (Router.dat V c).arrAt 3 cfg0.N = Router.weights (F := Ideal) (V c main_v0) (V c main_arg1) := by
  refine (Router.dat V c).arrAt_eq_of_after_last 3 t0_0 (by decide +kernel) _ fun j => ?_
  blk_simp
  rw [Router.after_3, tokens_block, weight_block]

/-! ## The experts' grid -/

theorem index1_0 : ∀ t : Fin grid1.N, win1_0.index t = ![t.val / 48, 0] := by decide +kernel
theorem index1_1 : ∀ t : Fin grid1.N, win1_1.index t = ![t.val / 48, 0] := by decide +kernel
theorem index1_2 : ∀ t : Fin grid1.N, win1_2.index t = ![t.val / 3 % 16, t.val % 3, 0] := by decide +kernel
theorem index1_3 : ∀ t : Fin grid1.N, win1_3.index t = ![t.val / 3 % 16, t.val % 3, 0] := by decide +kernel
theorem index1_4 : ∀ t : Fin grid1.N, win1_4.index t = ![t.val / 3 % 16, 0, t.val % 3] := by decide +kernel
theorem index1_5 : ∀ t : Fin grid1.N, win1_5.index t = ![t.val / 48, 0] := by decide +kernel
theorem expert_of : ∀ t : Fin grid1.N, (grid1.coords t 1).val = t.val / 3 % 16 := by decide +kernel

/-- The expert of a point. -/
def expert (t : Fin cfg1.N) : Fin 16 := ⟨t.val / 3 % 16, Nat.mod_lt _ (by decide)⟩

/-- What a point adds to its output block. -/
def term (t : Fin cfg1.N) (y : S1024x2048.Idx) : EReal :=
  block (Experts.iblk V c 0 t) (Experts.iblk V c 2 t) (Experts.iblk V c 3 t) (Experts.iblk V c 4 t) (y 0) (y 1)
    * Experts.iblk V c 1 t (ix2 (y 0) (expert t))

theorem first_term (t : Fin cfg1.N) (y : S1024x2048.Idx) : Experts.firstAt V c t y = term V c t y := by
  have h : y = ix2 (y 0) (y 1) := by funext a; match a with | ⟨0, _⟩ => rfl | ⟨1, _⟩ => rfl
  rw [h]
  exact first_at _ _ _ _ _ _ _ _ (expert t) (expert_of t)

theorem next_term (t : Fin cfg1.N) (acc : Vec Ideal S1024x2048 .f32) (y : S1024x2048.Idx) :
    Experts.nextAt V c t acc y = acc y + term V c t y := by
  have h : y = ix2 (y 0) (y 1) := by funext a; match a with | ⟨0, _⟩ => rfl | ⟨1, _⟩ => rfl
  rw [h]
  exact next_at _ _ _ _ _ _ _ _ _ (expert t) (expert_of t)

/-- The output block when it is copied out: the sum over the 48 points of its run. -/
theorem accAt_flush (t : Fin cfg1.N) (h : t.val % 48 = 48 - 1) (y : S1024x2048.Idx) :
    Experts.accAt V c t.val t.isLt y = ∑ s : Fin 48, term V c ⟨48 * (t.val / 48) + s.val, run_point_lt_of_flush t h s⟩ y := by
  rw [eq_sum_fin_of_reset_step_apply_of_flush (fun n h => Experts.accAt V c n h) 48 (fun _ => (0 : EReal)) (term V c)
    (fun t h y => by rw [Experts.accAt_first V c t h, first_term, zero_add])
    (fun t h y => by rw [Experts.accAt_next V c t h, next_term]) t h y]
  exact zero_add _

section reads
variable (t : Fin cfg1.N) (r : Fin 1024) (T : Fin 4096) (hT : T.val = 1024 * (t.val / 48) + r.val) (e : Fin 16)
  (he : e.val = t.val / 3 % 16) (f : Fin 256) (l : Fin 768) (hl : l.val = t.val % 3 * 256 + f.val)
include hT in
theorem read_0 (j : Fin 2048) : Experts.iblk V c 0 t (ix2 r j) = V c main_call0_v1 (ix2 T j) := by
  blk_ext [Experts.iblk, index1_0 t]
include hT in
theorem read_1 (j : Fin 16) : Experts.iblk V c 1 t (ix2 r j) = V c main_call0_v0_1 (ix2 T j) := by
  blk_ext [Experts.iblk, index1_1 t]
include he hl in
theorem read_2 (j : Fin 2048) : Experts.iblk V c 2 t (ix3 0 f j) = V c main_arg2 (ix3 e l j) := by
  blk_ext [Experts.iblk, index1_2 t]
include he hl in
theorem read_3 (j : Fin 2048) : Experts.iblk V c 3 t (ix3 0 f j) = V c main_arg3 (ix3 e l j) := by
  blk_ext [Experts.iblk, index1_3 t]
include he hl in
theorem read_4 (k : Fin 2048) : Experts.iblk V c 4 t (ix3 0 k f) = V c main_arg4 (ix3 e k l) := by
  blk_ext [Experts.iblk, index1_4 t]
end reads

/-- A point's addition, off the arrays, when its expert's weight is nonnegative and finite. -/
theorem term_eq (t : Fin cfg1.N) (y : S1024x2048.Idx) (T : Fin 4096) (hT : T.val = 1024 * (t.val / 48) + (y 0).val) (e : Fin 16)
    (he : e.val = t.val / 3 % 16) (lane : Fin 256 → Fin 768) (hl : ∀ f, (lane f).val = t.val % 3 * 256 + f.val)
    (hw : Fine (V c main_call0_v0_1 (ix2 T e))) :
    term V c t y = ∑ f : Fin 256, hidden (V c main_call0_v1) (V c main_arg2) (V c main_arg3) T e (lane f) * V c main_call0_v0_1 (ix2 T e)
      * V c main_arg4 (ix3 e (y 1) (lane f)) := by
  have hx : expert t = e := Fin.ext he.symm
  unfold term block
  rw [hx, read_1 V c t (y 0) T hT e, sum_mul_fine _ _ _ hw]
  refine Finset.sum_congr rfl fun f _ => ?_
  rw [read_4 V c t e he f (lane f) (hl f) (y 1), mul_right_comm]
  unfold hidden
  simp only [read_0 V c t (y 0) T hT, read_2 V c t e he f (lane f) (hl f), read_3 V c t e he f (lane f) (hl f)]

/-- A run's additions at a token and a column, off the arrays. -/
theorem run_eq (hw : ∀ T e, Fine (V c main_call0_v0_1 (ix2 T e))) (b : ℕ) (hb : ∀ s : Fin 48, 48 * b + s.val < cfg1.N) (y : S1024x2048.Idx)
    (T : Fin 4096) (hT : T.val = 1024 * b + (y 0).val) :
    ∑ s : Fin 48, term V c ⟨48 * b + s.val, hb s⟩ y
      = mixed (V c main_call0_v1) (V c main_call0_v0_1) (V c main_arg2) (V c main_arg3) (V c main_arg4) T (y 1) := by
  unfold mixed
  refine Eq.trans (Finset.sum_congr rfl fun s _ => ?_) (Fin.sum_points_lanes_fin (N := 48) (n := 256) (A := 16) (L := 768) 3 fun e l =>
    hidden (V c main_call0_v1) (V c main_arg2) (V c main_arg3) T e l * V c main_call0_v0_1 (ix2 T e) * V c main_arg4 (ix3 e (y 1) l))
  have hs := s.isLt
  refine term_eq V c ⟨48 * b + s.val, hb s⟩ y T ?_ ⟨s.val / 3, by omega⟩ ?_
    (fun f => ⟨s.val % 3 * 256 + f.val, by omega⟩) (fun f => ?_) (hw _ _)
  · show T.val = 1024 * ((48 * b + s.val) / 48) + (y 0).val
    omega
  · show s.val / 3 = (48 * b + s.val) / 3 % 16
    omega
  · show s.val % 3 * 256 + f.val = (48 * b + s.val) % 3 * 256 + f.val
    omega

theorem place_0 (t : Fin cfg1.N) (y : S1024x2048.Idx) : ((win1_5.blk t).view.emb y 0).val = 1024 * (t.val / 48) + (y 0).val := by
  blk_simp [index1_5 t]
  exact congrArg (· + _) (mul_comm _ _)

theorem place_1 (t : Fin cfg1.N) (y : S1024x2048.Idx) : (win1_5.blk t).view.emb y 1 = y 1 := by
  apply Fin.ext
  blk_simp [index1_5 t]

/-- The experts' output array: every expert's output, mixed by the weights, the weights being nonnegative and finite. -/
theorem experts_output (hw : ∀ T e, Fine (V c main_call0_v0_1 (ix2 T e))) : (Experts.dat V c).arrAt 5 cfg1.N
    = fun i : S4096x2048.Idx => mixed (V c main_call0_v1) (V c main_call0_v0_1) (V c main_arg2) (V c main_arg3) (V c main_arg4) (i 0) (i 1) := by
  refine (Experts.dat V c).arrAt_eq_of_covers 5 _ (by decide +kernel) fun t hf y => ?_
  have ht : t.val % 48 = 48 - 1 := (flush1_5 t).mp hf
  blk_simp
  rw [Experts.after_5, accAt_flush V c t ht y, place_1 t y]
  exact run_eq V c hw (t.val / 48) (fun s => run_point_lt_of_flush t ht s) y _ (place_0 t y)

end Cert.Value

end
-- ==== Proof.Value.Stages.lean ====
/- The reference's result in stages: logits, softmax, the two picks, the combining weights, the experts' output. -/
module

public import proofs.«01_k».proof.Proof.Gen.ReferenceIdeal.Run

@[expose] public section

set_option maxRecDepth 16384

noncomputable section

namespace Cert.ReferenceIdeal.Stages

open Cert.ReferenceIdeal Cert.ReferenceIdeal.Gen Cert.ReferenceIdeal.Value
open Idealize.ShloMosaic Idealize.SL.Sem

variable {F : FTy → Type} [FloatOps F]

/-- The tokens, one row each. -/
def tokens (a : FVec F S2x2048x2048 .f32) : FVec F S4096x2048 .f32 := shapeCast _ a shapeCasts_S2x2048x2048_S4096x2048

def logits (x : FVec F S4096x2048 .f32) (w : FVec F S16x2048 .f32) : FVec F S4096x16 .f32 :=
  Host.dotGeneral dot_S4096x2048_S2048x16_S4096x16_1_0_0_1_n_n none x (transpose S2048x16 [1, 0] w transposes_S16x2048_S2048x16_1_0)

/-- A row's greatest logit, along the row. -/
def maxes (l : FVec F S4096x16 .f32) : FVec F S4096x16 .f32 :=
  broadcastInDim S4096x16 ![0, 1] bcast_S4096x1_S4096x16_0_1 (broadcastInDim S4096x1 ![0] bcast_S4096_S4096x1_0
    (maximumf (broadcastInDim S4096 ![] bcast_S_S4096 (constant S_ .f32 0xFF800000#32))
      (Host.reduce FloatOps.maximumf l (constant S_ .f32 0xFF800000#32) reducesTo_S4096x16_S4096_d1 h_S_)))

def exps (l : FVec F S4096x16 .f32) : FVec F S4096x16 .f32 := Host.exp (subf l (maxes l))

def probs (l : FVec F S4096x16 .f32) : FVec F S4096x16 .f32 :=
  Host.divf (exps l) (broadcastInDim S4096x16 ![0, 1] bcast_S4096x1_S4096x16_0_1 (broadcastInDim S4096x1 ![0] bcast_S4096_S4096x1_0
    (Host.reduceAdd (exps l) (constant S_ .f32 0x00000000#32) reducesTo_S4096x16_S4096_d1 h_S_)))

/-- The two greatest entries of each row and their lanes. -/
def picks (p : FVec F S4096x16 .f32) : FVec F S4096x2 .f32 × IVec S4096x2 32 :=
  Host.topK S4096x2 1 (FloatOps.cmpfTotal .gt) p sliceFits_S4096x16_S4096x2

/-- The two picked entries divided by their sum. -/
def shares (v : FVec F S4096x2 .f32) : FVec F S4096x2 .f32 :=
  Host.divf v (broadcastInDim S4096x2 ![0, 1] bcast_S4096x1_S4096x2_0_1 (broadcastInDim S4096x1 ![0] bcast_S4096_S4096x1_0
    (Host.reduceAdd v (constant S_ .f32 0x00000000#32) reducesTo_S4096x2_S4096_d1 h_S_)))

/-- The token of each pick, as a word. -/
def rowWords : IVec S4096x2x1 32 :=
  broadcastInDim S4096x2x1 ![0, 1] bcast_S4096x2_S4096x2x1_0_1 (broadcastInDim S4096x2 ![0, 1] bcast_S4096x1_S4096x2_0_1
    (select (cmpi .slt (broadcastInDim S4096x1 ![0] bcast_S4096_S4096x1_0 (iotaInDim S4096 32 0)) (broadcastInDim S4096x1 ![] bcast_S_S4096x1 (constantI S_ 32 0#32)))
      (addi (broadcastInDim S4096x1 ![0] bcast_S4096_S4096x1_0 (iotaInDim S4096 32 0)) (broadcastInDim S4096x1 ![] bcast_S_S4096x1 (constantI S_ 32 4096#32)))
      (broadcastInDim S4096x1 ![0] bcast_S4096_S4096x1_0 (iotaInDim S4096 32 0))))

/-- The lane of each pick, as a word. -/
def laneWords (i : IVec S4096x2 32) : IVec S4096x2x1 32 :=
  broadcastInDim S4096x2x1 ![0, 1] bcast_S4096x2_S4096x2x1_0_1
    (select (cmpi .slt i (broadcastInDim S4096x2 ![] bcast_S_S4096x2 (constantI S_ 32 0#32)))
      (addi i (broadcastInDim S4096x2 ![] bcast_S_S4096x2 (constantI S_ 32 16#32))) i)

/-- Where each pick's share goes. -/
def spots (i : IVec S4096x2 32) : IVec S4096x2x2 32 :=
  concatenate S4096x2x2 2 [⟨S4096x2x1, rowWords⟩, ⟨S4096x2x1, laneWords i⟩] concatenates_S4096x2x1_S4096x2x1_S4096x2x2_d2

def combine (p : FVec F S4096x16 .f32) : FVec F S4096x16 .f32 :=
  Host.scatterAdd scatter_S4096x16_S4096x2x2_S4096x2_n_01_01_2 (broadcastInDim S4096x16 ![] bcast_S_S4096x16 (constant S_ .f32 0x00000000#32))
    (spots (picks p).2) (shares (picks p).1)

/-- The tokens through one of the experts' first matrices. -/
def project (x : FVec F S4096x2048 .f32) (g : FVec F S16x768x2048 .f32) : FVec F S16x4096x768 .f32 :=
  transpose S16x4096x768 [0, 2, 1] (Host.dotGeneral dot_S16x768x2048_S4096x2048_S16x768x4096_2_1_01_0_n_n none g x) transposes_S16x768x4096_S16x4096x768_0_2_1

def gated (h : FVec F S16x4096x768 .f32) : FVec F S16x4096x768 .f32 :=
  mulf h (Host.divf (broadcastInDim S16x4096x768 ![] bcast_S_S16x4096x768 (constant S_ .f32 0x3F800000#32))
    (addf (broadcastInDim S16x4096x768 ![] bcast_S_S16x4096x768 (constant S_ .f32 0x3F800000#32)) (Host.exp (Host.negf h))))

def output (x : FVec F S4096x2048 .f32) (cw : FVec F S4096x16 .f32) (g u : FVec F S16x768x2048 .f32) (d : FVec F S16x2048x768 .f32) :
    FVec F S4096x2048 .f32 :=
  Host.dotGeneral dot_S16x4096x768_S16x2048x768_S4096x2048_02_02_1_1_n_n none
    (mulf (mulf (gated (project x g)) (project x u))
      (broadcastInDim S16x4096x768 ![0, 1, 2] bcast_S16x4096x1_S16x4096x768_0_1_2 (broadcastInDim S16x4096x1 ![0, 1] bcast_S16x4096_S16x4096x1_0_1
        (transpose S16x4096 [1, 0] cw transposes_S4096x16_S16x4096_1_0)))) d

set_option maxHeartbeats 4000000 in
theorem result_eq (m : (ℓ : Loc nD τ sig) → Buf (Elt F) ℓ) (c : Dev nD) :
    res_main_v47 m c = shapeCast S2x2048x2048 (output (tokens (m ((c.tc : Thread nD τ).loc main_arg0)))
      (combine (probs (logits (tokens (m ((c.tc : Thread nD τ).loc main_arg0))) (m ((c.tc : Thread nD τ).loc main_arg1)))))
      (m ((c.tc : Thread nD τ).loc main_arg2)) (m ((c.tc : Thread nD τ).loc main_arg3)) (m ((c.tc : Thread nD τ).loc main_arg4)))
      shapeCasts_S4096x2048_S2x2048x2048 := by
  unfold res_main_v47
  rfl

end Cert.ReferenceIdeal.Stages

end
-- ==== Proof.Value.Reference.lean ====
/- The reference's stages, element by element: the logits, the combining weights (a sort's two first places per token), the
   experts' output. -/
module

public import proofs.«01_k».proof.Proof.Value.Stages
public import proofs.«01_k».proof.Proof.Value.Weights
public import Idealize.ShloMosaic.Lib.Pointwise
public import Idealize.ShloMosaic.Lib.Routing.OpsPair

@[expose] public section

set_option maxRecDepth 16384

noncomputable section

namespace Cert.ReferenceIdeal.Stages

open Cert.ReferenceIdeal Cert.ReferenceIdeal.Gen Cert.Value
open Idealize.ShloMosaic

theorem ofBits_negInf : Ideal.ofBits FTy.f32 4286578688#32 = ⊥ := by
  simp [Ideal.ofBits, Ideal.ieee]

section route
variable (x : FVec Ideal S4096x2048 .f32) (w : FVec Ideal S16x2048 .f32) (t : Fin 4096) (e : Fin 16) (l p : FVec Ideal S4096x16 .f32)

theorem logits_at : logits x w (ix2 t e) = ∑ k : Fin 2048, x (ix2 t k) * w (ix2 e k) := by
  pointwise [logits]

theorem maxes_at : maxes l (ix2 t e) = top fun i => l (ix2 t i) := by
  pointwise [maxes]
  rw [ofBits_negInf, bot_sup_eq]; rfl

theorem probs_at : probs l (ix2 t e) = soft (fun i => l (ix2 t i)) e := by
  pointwise [probs, exps]
  simp only [maxes_at]; rfl

theorem before_eq : (fun k k' : Fin 16 => (FloatOps.cmpfTotal (F := Ideal) (φ := .f32) CmpDirection.gt (p (ix2 t k)) (p (ix2 t k')) == 1#1))
    = above fun i => p (ix2 t i) := by
  funext k k'
  unfold above
  show (BitVec.ofBool (decide (p (ix2 t k') < p (ix2 t k))) == 1#1) = _
  by_cases h : p (ix2 t k') < p (ix2 t k)
  · simp [h]
  · simp [h]

theorem along_ix2 (s k : Fin 16) : Shape.Idx.along (s := S4096x16) (ix2 t s) 1 k = ix2 t k := by
  funext a
  match a with
  | ⟨0, _⟩ => rfl
  | ⟨1, _⟩ => rfl

theorem picks_value (s : Fin 2) : (picks p).1 (ix2 t s) = p (ix2 t (place (fun i => p (ix2 t i)) s)) := by
  pointwise [picks, Host.topK, Host.sort2]
  simp only [along_ix2, before_eq]; rfl

theorem picks_lane (s : Fin 2) : (picks p).2 (ix2 t s) = BitVec.ofNat 32 (place (fun i => p (ix2 t i)) s).val := by
  pointwise [picks, Host.topK, Host.sort2]
  simp only [along_ix2, before_eq]; rfl

theorem shares_at (v : FVec Ideal S4096x2 .f32) (s : Fin 2) : shares v (ix2 t s) = Ideal.div (v (ix2 t s)) (∑ r : Fin 2, v (ix2 t r)) := by
  pointwise [shares]

theorem spots_row (v : IVec S4096x2 32) (s : Fin 2) : spots v (ix3 t s 0) = BitVec.ofNat 32 t.val := by
  pointwise [spots, rowWords, laneWords]
  refine Routing.wrap_of_lt _ _ ?_
  have := t.isLt
  rw [BitVec.toNat_ofNat]; omega

theorem spots_lane (v : IVec S4096x2 32) (s : Fin 2) (b : Fin 16) (h : v (ix2 t s) = BitVec.ofNat 32 b.val) :
    spots v (ix3 t s 1) = BitVec.ofNat 32 b.val := by
  pointwise [spots, rowWords, laneWords]
  rw [h]
  refine Routing.wrap_of_lt _ _ ?_
  have := b.isLt
  rw [BitVec.toNat_ofNat]; omega

theorem toInt_token (t : Fin 4096) : (BitVec.ofNat 32 t.val).toInt = t.val := by
  have := t.isLt
  rw [BitVec.toInt_eq_toNat_of_lt (by rw [BitVec.toNat_ofNat]; omega), BitVec.toNat_ofNat]; omega

theorem lands (a : Fin 4096) (s : Fin 2) :
    scatter_S4096x16_S4096x2x2_S4096x2_n_01_01_2.resultIdx? (ix2 a s) (spots (picks p).2) = some (ix2 t e)
      ↔ a = t ∧ place (fun i => p (ix2 a i)) s = e := by
  refine (Routing.scatter_lands2 scatter_S4096x16_S4096x2x2_S4096x2_n_01_01_2 rfl rfl rfl (spots (picks p).2) a s t e).trans ?_
  have h1 := spots_row a (picks p).2 s
  have h2 := spots_lane a (picks p).2 s _ (picks_lane a p s)
  change (spots (picks p).2 (ix3 a s 0)).toInt = _ ∧ (spots (picks p).2 (ix3 a s 1)).toInt = _ ↔ _
  rw [h1, h2, toInt_token, toInt_lane]
  constructor
  · rintro ⟨h, h'⟩; exact ⟨Fin.ext (by omega), Fin.ext (by omega)⟩
  · rintro ⟨h, h'⟩; subst h h'; exact ⟨rfl, rfl⟩

theorem combine_at : combine p (ix2 t e) = spread (fun i => p (ix2 t i)) e := by
  have h : combine p (ix2 t e) = 0 + ∑ j ∈ Finset.univ.filter (fun j => scatter_S4096x16_S4096x2x2_S4096x2_n_01_01_2.resultIdx? j (spots (picks p).2) = some (ix2 t e)),
      shares (picks p).1 j := by
    show (broadcastInDim S4096x16 ![] bcast_S_S4096x16 (constant S_ .f32 0x00000000#32) : FVec Ideal S4096x16 .f32) (ix2 t e) + _ = _
    congr 1
    pointwise
  rw [h, zero_add, Finset.sum_filter, sum_idx2]
  rw [Finset.sum_eq_single t]
  · unfold spread
    refine Finset.sum_congr rfl fun s _ => ?_
    simp only [lands, true_and, shares_at, picks_value]
  · intro a _ hat
    refine Finset.sum_eq_zero fun s _ => if_neg fun q => hat ((lands t e p a s).mp q).1
  · intro h; exact absurd (Finset.mem_univ t) h

end route

theorem output_at (x : FVec Ideal S4096x2048 .f32) (cw : FVec Ideal S4096x16 .f32) (g u : FVec Ideal S16x768x2048 .f32)
    (d : FVec Ideal S16x2048x768 .f32) (t : Fin 4096) (k : Fin 2048) :
    output x cw g u d (ix2 t k) = ∑ e : Fin 16, ∑ f : Fin 768,
      ((∑ j : Fin 2048, g (ix3 e f j) * x (ix2 t j)) * Ideal.div 1 (1 + Ideal.exp (-∑ j : Fin 2048, g (ix3 e f j) * x (ix2 t j)))
        * ∑ j : Fin 2048, u (ix3 e f j) * x (ix2 t j)) * cw (ix2 t e) * d (ix3 e k f) := by
  pointwise [output, gated, project]

end Cert.ReferenceIdeal.Stages

end
-- ==== Proof.Value.Output.lean ====
/- The kernel's two results as the reference's stages of the arguments. -/
module

public import proofs.«01_k».proof.Proof.Value.Arrays
public import proofs.«01_k».proof.Proof.Value.Reference
public import proofs.«01_k».proof.Proof.Ideal.Run

@[expose] public section

set_option maxRecDepth 16384

noncomputable section

namespace Cert.Value

open Idealize.ShloMosaic Idealize.ShloMosaic.TcCoe Cert.KernelIdeal Cert.KernelIdeal.Gen

/-- The reference's output rows. -/
def wanted (x : Vec Ideal S4096x2048 .f32) (w : Vec Ideal S16x2048 .f32) (g u : Vec Ideal S16x768x2048 .f32)
    (d : Vec Ideal S16x2048x768 .f32) : Vec Ideal S4096x2048 .f32 :=
  Cert.ReferenceIdeal.Stages.output (F := Ideal) x (Cert.ReferenceIdeal.Stages.combine (F := Ideal) (Cert.ReferenceIdeal.Stages.probs (F := Ideal) (Cert.ReferenceIdeal.Stages.logits (F := Ideal) x w))) g u d

/-! ## The two calls against the reference's stages, on arrays -/

section stages
variable (x : Vec Ideal S4096x2048 .f32) (w : Vec Ideal S16x2048 .f32)

theorem logits_eq : k0_pay2 (F := Ideal) x w = Cert.ReferenceIdeal.Stages.logits (F := Ideal) x w := by
  funext i
  obtain ⟨t, e, rfl⟩ : ∃ t e, i = ix2 t e := ⟨i 0, i 1, by funext a; match a with | ⟨0, _⟩ => rfl | ⟨1, _⟩ => rfl⟩
  exact (logits_at x w t e).trans (Cert.ReferenceIdeal.Stages.logits_at x w t e).symm

theorem weights_fine (t : Fin 4096) (e : Fin 16) : Fine (Router.weights (F := Ideal) x w (ix2 t e)) := by
  rw [weights_at]
  exact (weights_eq _ (soft_sound _) e).2

theorem combine_eq (t : Fin 4096) (e : Fin 16) :
    Cert.ReferenceIdeal.Stages.combine (F := Ideal) (Cert.ReferenceIdeal.Stages.probs (F := Ideal) (Cert.ReferenceIdeal.Stages.logits (F := Ideal) x w)) (ix2 t e)
      = Router.weights (F := Ideal) x w (ix2 t e) := by
  rw [weights_at, ← (weights_eq _ (soft_sound _) e).1, logits_eq, Cert.ReferenceIdeal.Stages.combine_at]
  congr 1
  funext i
  exact Cert.ReferenceIdeal.Stages.probs_at _ _ _

theorem output_eq (g u : Vec Ideal S16x768x2048 .f32) (d : Vec Ideal S16x2048x768 .f32) :
    (fun i : S4096x2048.Idx => mixed x (Router.weights (F := Ideal) x w) g u d (i 0) (i 1))
      = wanted x w g u d := by
  funext i
  obtain ⟨t, k, rfl⟩ : ∃ t k, i = ix2 t k := ⟨i 0, i 1, by funext a; match a with | ⟨0, _⟩ => rfl | ⟨1, _⟩ => rfl⟩
  refine Eq.trans ?_ (Cert.ReferenceIdeal.Stages.output_at ..).symm
  show mixed x _ g u d t k = _
  unfold mixed hidden
  refine Finset.sum_congr rfl fun e _ => Finset.sum_congr rfl fun f _ => ?_
  rw [combine_eq]
  simp only [mul_comm (x _)]
end stages

/-! ## The run's buffers -/

section host
variable (W : Valuation τ sig (Elt Ideal))

theorem host_rows : StableHlo.after (hostOps0 (F := Ideal)) W (Proc.devRef .tc main_v0)
    = shapeCast S4096x2048 (W (Proc.devRef .tc main_arg0)) shapeCasts_S2x2048x2048_S4096x2048 := by
  simp only [hostOps0, StableHlo.after_cons, StableHlo.after_nil]
  exact StableHlo.reshape_result ..

theorem host_cast : StableHlo.after (hostOps1 (F := Ideal)) W (Proc.devRef .tc main_call0_v1) = W (Proc.devRef .tc main_v0) := by
  simp only [hostOps1, StableHlo.after_cons, StableHlo.after_nil]
  exact StableHlo.unary_result ..

theorem host_result : StableHlo.after (hostOps2 (F := Ideal)) W (Proc.devRef .tc main_v2)
    = shapeCast S2x2048x2048 (W (Proc.devRef .tc main_v1_0)) shapeCasts_S4096x2048_S2x2048x2048 := by
  simp only [hostOps2, StableHlo.after_cons, StableHlo.after_nil]
  exact StableHlo.reshape_result ..
end host

variable (m : (ℓ : Loc nD τ sig) → Buf (Elt Ideal) ℓ) (ρ : Dev nD → PrngReg) (c : Dev nD)

/-- The tokens, one row each. -/
abbrev rows : Vec Ideal S4096x2048 .f32 := shapeCast S4096x2048 (m ((c : Thread nD τ).loc main_arg0)) shapeCasts_S2x2048x2048_S4096x2048

theorem entry_tokens : Run.E1 m ρ c main_v0 = rows m c :=
  host_rows (Run.B0 m ρ c)
theorem entry_router : Run.E1 m ρ c main_arg1 = m ((c : Thread nD τ).loc main_arg1) := Run.B1_args m ρ c _ (by decide)

theorem logits_after : Run.B2 m ρ c (Proc.devRef .tc main_v1_1) = k0_pay2 (F := Ideal) (rows m c) (m ((c : Thread nD τ).loc main_arg1)) := by
  refine (Run.B2_arr m ρ c 2).trans ((router_logits _ c).trans ?_)
  rw [entry_tokens, entry_router]

theorem weights_after : Run.B2 m ρ c (Proc.devRef .tc main_call0_v0_1) = Router.weights (F := Ideal) (rows m c) (m ((c : Thread nD τ).loc main_arg1)) := by
  refine (Run.B2_arr m ρ c 3).trans ((router_weights _ c).trans ?_)
  rw [entry_tokens, entry_router]

theorem entry_weights : Run.E3 m ρ c main_call0_v0_1 = Router.weights (F := Ideal) (rows m c) (m ((c : Thread nD τ).loc main_arg1)) :=
  (Run.B3_of m ρ c main_call0_v0_1 (by decide)).trans (weights_after m ρ c)

theorem entry_cast : Run.E3 m ρ c main_call0_v1 = rows m c := by
  have h : Run.B2 m ρ c (Proc.devRef .tc main_v0) = rows m c := (Run.B2_of m ρ c main_v0 (by decide +kernel)).trans (entry_tokens m ρ c)
  exact (host_cast (Run.B2 m ρ c)).trans h

theorem experts_after : Run.B4 m ρ c (Proc.devRef .tc main_v1_0)
    = wanted (rows m c) (m ((c : Thread nD τ).loc main_arg1))
        (m ((c : Thread nD τ).loc main_arg2)) (m ((c : Thread nD τ).loc main_arg3)) (m ((c : Thread nD τ).loc main_arg4)) := by
  refine (Run.B4_arr m ρ c 5).trans ((experts_output _ c fun T e => ?_).trans ?_)
  · rw [entry_weights]; exact weights_fine _ _ T e
  · have h2 : Run.E3 m ρ c main_arg2 = m ((c : Thread nD τ).loc main_arg2) := Run.B3_args m ρ c _ (by decide)
    have h3 : Run.E3 m ρ c main_arg3 = m ((c : Thread nD τ).loc main_arg3) := Run.B3_args m ρ c _ (by decide)
    have h4 : Run.E3 m ρ c main_arg4 = m ((c : Thread nD τ).loc main_arg4) := Run.B3_args m ρ c _ (by decide)
    rw [entry_weights, entry_cast, h2, h3, h4]
    exact output_eq _ _ _ _ _

/-- The second result. -/
theorem final_logits : Run.final m ρ c (Proc.devRef .tc main_v1_1) = Cert.ReferenceIdeal.Stages.logits (F := Ideal) (rows m c) (m ((c : Thread nD τ).loc main_arg1)) :=
  (Run.final_of m ρ c main_v1_1 (by decide)).trans ((Run.B4_of_ne m ρ c main_v1_1 (by decide +kernel)).trans
    ((Run.B3_of m ρ c main_v1_1 (by decide)).trans ((logits_after m ρ c).trans (logits_eq _ _))))

/-- The first result. -/
theorem final_output : Run.final m ρ c (Proc.devRef .tc main_v2)
    = shapeCast S2x2048x2048 (wanted (rows m c) (m ((c : Thread nD τ).loc main_arg1))
        (m ((c : Thread nD τ).loc main_arg2)) (m ((c : Thread nD τ).loc main_arg3)) (m ((c : Thread nD τ).loc main_arg4)))
      shapeCasts_S4096x2048_S2x2048x2048 := by
  rw [← experts_after m ρ c]
  exact host_result (Run.B4 m ρ c)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Plain.Run
public import proofs.«01_k».proof.Proof.Ideal.Run
public import proofs.«01_k».proof.Proof.Value.Output
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments unchanged and its counters, of which it has none, at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩) (Cert.ReferenceIdeal.Value.run m g)

/-- The kernel's two results are the reference's, element by element. -/
theorem algebra : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Run.final m g c (Proc.devRef .tc Cert.KernelIdeal.main_v2),
    fun c => Cert.KernelIdeal.Run.final m g c (Proc.devRef .tc Cert.KernelIdeal.main_v1_1), ?_, ?_⟩
  · refine (θ_run Cert.KernelIdeal.defs _ _).mono (fun r h c => ?_) (Cert.KernelIdeal.Run.run m g)
    have get (a : Ref Cert.KernelIdeal.sig .tc) (ha : a ∈ Cert.KernelIdeal.Run.args)
        (hs : ¬ (Proc.devRef .tc a : DevRef Cert.KernelIdeal.τ Cert.KernelIdeal.sig).isScoped) :
        r.2.mem (c.tc.loc a) = m (c.tc.loc a) := (h.1 c a hs).trans (Cert.KernelIdeal.Run.final_args m g c a ha)
    exact ⟨h.1 c _ (by decide), h.1 c _ (by decide), get _ (by decide) (by decide), get _ (by decide) (by decide),
      get _ (by decide) (by decide), get _ (by decide) (by decide), get _ (by decide) (by decide)⟩
  · refine (θ_run Cert.ReferenceIdeal.defs _ _).mono (fun r h c => ?_) (Cert.ReferenceIdeal.Value.run m' g')
    obtain ⟨h0, h1, h2, h3, h4⟩ := hagree c
    refine ⟨(h c).1.trans ?_, (h c).2.1.trans ?_, (h c).2.2⟩
    · refine Eq.trans ?_ (Cert.Value.final_output m g c).symm
      rw [Cert.ReferenceIdeal.Stages.result_eq, h0, h1, h2, h3, h4]
      rfl
    · refine Eq.trans ?_ (Cert.Value.final_logits m g c).symm
      rw [h0, h1]
      rfl

theorem claim : Cert.Claim := ⟨Cert.Kernel.Gen.facts, Cert.KernelIdeal.Gen.facts, Cert.ReferenceIdeal.Gen.facts,
  fun m g _ => Cert.Kernel.Run.quiescent m g, fun m g _ => Cert.KernelIdeal.Run.quiescent m g, reference_frame, trivial, algebra⟩

end Cert.Proof

end
